-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwIdeal_ids_sorted [hPre_ids_sorted : Cert.Pre_ids_sorted.Facts] (m : (ℓ : Loc Cert.DwIdeal.nD Cert.DwIdeal.τ Cert.DwIdeal.sig) → Buf (Elt Ideal) ℓ) : Prop :=
  ∀ c : Dev Cert.DwIdeal.nD,
    (Cert.Pre_ids_sorted.fn (F := Ideal) (m ((c.tc : Thread Cert.DwIdeal.nD Cert.DwIdeal.τ).loc Cert.DwIdeal.main_arg0)) (m ((c.tc : Thread Cert.DwIdeal.nD Cert.DwIdeal.τ).loc Cert.DwIdeal.main_arg1)) (m ((c.tc : Thread Cert.DwIdeal.nD Cert.DwIdeal.τ).loc Cert.DwIdeal.main_arg2)) (m ((c.tc : Thread Cert.DwIdeal.nD Cert.DwIdeal.τ).loc Cert.DwIdeal.main_arg3)) (m ((c.tc : Thread Cert.DwIdeal.nD Cert.DwIdeal.τ).loc Cert.DwIdeal.main_arg4)) (m ((c.tc : Thread Cert.DwIdeal.nD Cert.DwIdeal.τ).loc Cert.DwIdeal.main_arg5)) (m ((c.tc : Thread Cert.DwIdeal.nD Cert.DwIdeal.τ).loc Cert.DwIdeal.main_arg6))) = (fun _ => 1#1)

def Pre_DwRefIdeal (m : (ℓ : Loc Cert.DwRefIdeal.nD Cert.DwRefIdeal.τ Cert.DwRefIdeal.sig) → Buf (Elt Ideal) ℓ) : Prop :=
  True

def Pre_DwRefIdeal_ids_sorted [hPre_ids_sorted : Cert.Pre_ids_sorted.Facts] (m : (ℓ : Loc Cert.DwRefIdeal.nD Cert.DwRefIdeal.τ Cert.DwRefIdeal.sig) → Buf (Elt Ideal) ℓ) : Prop :=
  ∀ c : Dev Cert.DwRefIdeal.nD,
    (Cert.Pre_ids_sorted.fn (F := Ideal) (m ((c.tc : Thread Cert.DwRefIdeal.nD Cert.DwRefIdeal.τ).loc Cert.DwRefIdeal.main_arg0)) (m ((c.tc : Thread Cert.DwRefIdeal.nD Cert.DwRefIdeal.τ).loc Cert.DwRefIdeal.main_arg1)) (m ((c.tc : Thread Cert.DwRefIdeal.nD Cert.DwRefIdeal.τ).loc Cert.DwRefIdeal.main_arg2)) (m ((c.tc : Thread Cert.DwRefIdeal.nD Cert.DwRefIdeal.τ).loc Cert.DwRefIdeal.main_arg3)) (m ((c.tc : Thread Cert.DwRefIdeal.nD Cert.DwRefIdeal.τ).loc Cert.DwRefIdeal.main_arg4)) (m ((c.tc : Thread Cert.DwRefIdeal.nD Cert.DwRefIdeal.τ).loc Cert.DwRefIdeal.main_arg5)) (m ((c.tc : Thread Cert.DwRefIdeal.nD Cert.DwRefIdeal.τ).loc Cert.DwRefIdeal.main_arg6))) = (fun _ => 1#1)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5)
      ∧ r.2.mem ((c.tc : Thread Cert.Dw.nD Cert.Dw.τ).loc Cert.Dw.main_arg6) = m ((c.tc : Thread Cert.Dw.nD Cert.Dw.τ).loc Cert.Dw.main_arg6))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ r.2.sem = fun _ => 0)

def quiescent_DwIdeal_pre_ids_sorted [hDwIdeal : Cert.DwIdeal.Facts] [hPre_ids_sorted : Cert.Pre_ids_sorted.Facts] : Prop :=
  ∀ (m : (ℓ : Loc Cert.DwIdeal.nD Cert.DwIdeal.τ Cert.DwIdeal.sig) → Buf (Elt Ideal) ℓ) (g : Dev Cert.DwIdeal.nD → PrngReg), Pre_DwIdeal_ids_sorted m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6))
      ∧ r.2.sem = fun _ => 0)

def quiescent_DwRefIdeal_pre_ids_sorted [hDwRefIdeal : Cert.DwRefIdeal.Facts] [hPre_ids_sorted : Cert.Pre_ids_sorted.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal_ids_sorted m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw_DwIdeal : Prop :=
  True

def algebraic_DwIdeal_DwRefIdeal_pre_ids_sorted [hDwIdeal : Cert.DwIdeal.Facts] [hDwRefIdeal : Cert.DwRefIdeal.Facts] [hPre_ids_sorted : Cert.Pre_ids_sorted.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal_ids_sorted m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)
      ∧ m' ((c.tc : Thread Cert.DwRefIdeal.nD Cert.DwRefIdeal.τ).loc Cert.DwRefIdeal.main_arg5) = m ((c.tc : Thread Cert.DwIdeal.nD Cert.DwIdeal.τ).loc Cert.DwIdeal.main_arg5)
      ∧ m' ((c.tc : Thread Cert.DwRefIdeal.nD Cert.DwRefIdeal.τ).loc Cert.DwRefIdeal.main_arg6) = m ((c.tc : Thread Cert.DwIdeal.nD Cert.DwIdeal.τ).loc Cert.DwIdeal.main_arg6)) →
    ∃ (v0 : (c : Dev Cert.DwIdeal.nD) → Buf (Elt Ideal) ((c.tc : Thread Cert.DwIdeal.nD Cert.DwIdeal.τ).loc Cert.DwIdeal.main_v17)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v17) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
          ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5)
          ∧ r.2.mem ((c.tc : Thread Cert.DwRefIdeal.nD Cert.DwRefIdeal.τ).loc Cert.DwRefIdeal.main_arg6) = m' ((c.tc : Thread Cert.DwRefIdeal.nD Cert.DwRefIdeal.τ).loc Cert.DwRefIdeal.main_arg6))

def Claim : Prop :=
  ∃ (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts) (hPre_ids_sorted : Cert.Pre_ids_sorted.Facts),
    quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwIdeal_pre_ids_sorted (hDwIdeal := hDwIdeal) (hPre_ids_sorted := hPre_ids_sorted)
    ∧ quiescent_DwRefIdeal (hDwRefIdeal := hDwRefIdeal)
    ∧ quiescent_DwRefIdeal_pre_ids_sorted (hDwRefIdeal := hDwRefIdeal) (hPre_ids_sorted := hPre_ids_sorted)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal_pre_ids_sorted (hDwIdeal := hDwIdeal) (hDwRefIdeal := hDwRefIdeal) (hPre_ids_sorted := hPre_ids_sorted)
-- ==== Pre_ids_sorted.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S11263 : Shape := ⟨1, ![11263]⟩

class Facts : Prop where
  slices_S11264_S11263_0 : S11264.Slices ![0] S11263
  slices_S11264_S11263_1 : S11264.Slices ![1] S11263

variable [Facts]

def fn {F : FTy → Type} [FloatOps F] (main_arg0 : FVec F S22x512x32000 .fp8e5m2) (main_arg1 : FVec F S22x512x250 .f32) (main_arg2 : FVec F S22x512x2560 .fp8e4m3) (main_arg3 : FVec F S22x512 .f32) (main_arg4 : FVec F S11264x2560 .fp8e5m2) (main_arg5 : FVec F S11264 .f32) (main_arg6 : IVec S11264 32) : IVec S11263 1 :=
  let main_v0 : IVec S11263 32 := (extractStridedSlice S11263 ![0] · slices_S11264_S11263_0) main_arg6
  let main_v1 : IVec S11263 32 := (extractStridedSlice S11263 ![1] · slices_S11264_S11263_1) main_arg6
  let main_v2 : IVec S11263 1 := cmpi .sle main_v0 main_v1
  main_v2
-- ==== Dx.lean ====
abbrev S22x512x32000 : Shape := ⟨3, ![22, 512, 32000]⟩
abbrev S22x512x250 : Shape := ⟨3, ![22, 512, 250]⟩
abbrev S32000x2560 : Shape := ⟨2, ![32000, 2560]⟩
abbrev S32000 : Shape := ⟨1, ![32000]⟩
abbrev S11264x32000 : Shape := ⟨2, ![11264, 32000]⟩
abbrev S11264x25x10 : Shape := ⟨3, ![11264, 25, 10]⟩
abbrev S25x11264x10 : Shape := ⟨3, ![25, 11264, 10]⟩
abbrev S1x32000 : Shape := ⟨2, ![1, 32000]⟩
abbrev S11264x2560 : Shape := ⟨2, ![11264, 2560]⟩
abbrev S1408x1280 : Shape := ⟨2, ![1408, 1280]⟩
abbrev S1x1408x10 : Shape := ⟨3, ![1, 1408, 10]⟩
abbrev S1280x2560 : Shape := ⟨2, ![1280, 2560]⟩
abbrev S1x1280 : Shape := ⟨2, ![1, 1280]⟩
abbrev S1408x2560 : Shape := ⟨2, ![1408, 2560]⟩
abbrev S1x1408x1 : Shape := ⟨3, ![1, 1408, 1]⟩
abbrev S1408x1 : Shape := ⟨2, ![1408, 1]⟩
abbrev S1x128 : Shape := ⟨2, ![1, 128]⟩
abbrev S1408x128 : Shape := ⟨2, ![1408, 128]⟩

abbrev nBuf : Space → Nat
  | .hbm => 9
  | .vmem => 11
  | .smem => 0
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S32000x2560, .fp8e4m3⟩
  | .hbm, ⟨3, _⟩ => ⟨S32000, .f32⟩
  | .hbm, ⟨4, _⟩ => ⟨S11264x32000, .fp8e5m2⟩
  | .hbm, ⟨5, _⟩ => ⟨S11264x25x10, .f32⟩
  | .hbm, ⟨6, _⟩ => ⟨S25x11264x10, .f32⟩
  | .hbm, ⟨7, _⟩ => ⟨S1x32000, .f32⟩
  | .hbm, ⟨8, _⟩ => ⟨S11264x2560, .f32⟩
  | .local _ .vmem, ⟨0, _⟩ => ⟨S1408x1280, .fp8e5m2⟩
  | .local _ .vmem, ⟨1, _⟩ => ⟨S1408x1280, .fp8e5m2⟩
  | .local _ .vmem, ⟨2, _⟩ => ⟨S1x1408x10, .f32⟩
  | .local _ .vmem, ⟨3, _⟩ => ⟨S1x1408x10, .f32⟩
  | .local _ .vmem, ⟨4, _⟩ => ⟨S1280x2560, .fp8e4m3⟩
  | .local _ .vmem, ⟨5, _⟩ => ⟨S1280x2560, .fp8e4m3⟩
  | .local _ .vmem, ⟨6, _⟩ => ⟨S1x1280, .f32⟩
  | .local _ .vmem, ⟨7, _⟩ => ⟨S1x1280, .f32⟩
  | .local _ .vmem, ⟨8, _⟩ => ⟨S1408x2560, .f32⟩
  | .local _ .vmem, ⟨9, _⟩ => ⟨S1408x2560, .f32⟩
  | .local _ .vmem, ⟨10, _⟩ => ⟨S1408x1280, .bf16⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DxRefIdeal.lean ====
abbrev S22x512x32000 : Shape := ⟨3, ![22, 512, 32000]⟩
abbrev S22x512x250 : Shape := ⟨3, ![22, 512, 250]⟩
abbrev S32000x2560 : Shape := ⟨2, ![32000, 2560]⟩
abbrev S32000 : Shape := ⟨1, ![32000]⟩
abbrev S11264x2560 : Shape := ⟨2, ![11264, 2560]⟩
abbrev S22x512x250x128 : Shape := ⟨4, ![22, 512, 250, 128]⟩
abbrev S22x512x250x1 : Shape := ⟨4, ![22, 512, 250, 1]⟩
abbrev S32000x1 : Shape := ⟨2, ![32000, 1]⟩
abbrev S22x512x2560 : Shape := ⟨3, ![22, 512, 2560]⟩

abbrev nBuf : Space → Nat
  | .hbm => 5
  | .vmem => 5
  | .smem => 0
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S32000x2560, .fp8e4m3⟩
  | .hbm, ⟨3, _⟩ => ⟨S32000, .f32⟩
  | .hbm, ⟨4, _⟩ => ⟨S11264x2560, .f32⟩
  | .local _ .vmem, ⟨0, _⟩ => ⟨S22x512x32000, .fp8e5m2⟩
  | .local _ .vmem, ⟨1, _⟩ => ⟨S22x512x250, .f32⟩
  | .local _ .vmem, ⟨2, _⟩ => ⟨S32000x2560, .fp8e4m3⟩
  | .local _ .vmem, ⟨3, _⟩ => ⟨S32000, .f32⟩
  | .local _ .vmem, ⟨4, _⟩ => ⟨S11264x2560, .f32⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S22x512x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x512x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11264x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S11264x32000 : Shape := ⟨2, ![11264, 32000]⟩
abbrev S11264x25x10 : Shape := ⟨3, ![11264, 25, 10]⟩
abbrev S25x10x11264 : Shape := ⟨3, ![25, 10, 11264]⟩
abbrev S26 : Shape := ⟨1, ![26]⟩
abbrev S_ : Shape := ⟨0, ![]⟩
abbrev S1x11264 : Shape := ⟨2, ![1, 11264]⟩
abbrev S26x1 : Shape := ⟨2, ![26, 1]⟩
abbrev S26x11264 : Shape := ⟨2, ![26, 11264]⟩
abbrev S44x256 : Shape := ⟨2, ![44, 256]⟩
abbrev S32000x2560 : Shape := ⟨2, ![32000, 2560]⟩
abbrev S1024x1280 : Shape := ⟨2, ![1024, 1280]⟩
abbrev S1x10x1024 : Shape := ⟨3, ![1, 10, 1024]⟩
abbrev S1x1024 : Shape := ⟨2, ![1, 1024]⟩
abbrev S1024x2560 : Shape := ⟨2, ![1024, 2560]⟩
abbrev S1280x2560 : Shape := ⟨2, ![1280, 2560]⟩
abbrev S1280x1024 : Shape := ⟨2, ![1280, 1024]⟩
abbrev S256x2560 : Shape := ⟨2, ![256, 2560]⟩
abbrev S1024x128 : Shape := ⟨2, ![1024, 128]⟩
abbrev S128x1024 : Shape := ⟨2, ![128, 1024]⟩
abbrev S1x1x1024 : Shape := ⟨3, ![1, 1, 1024]⟩
abbrev S1 : Shape := ⟨1, ![1]⟩
abbrev S1x256 : Shape := ⟨2, ![1, 256]⟩
abbrev S1280x256 : Shape := ⟨2, ![1280, 256]⟩

abbrev nBuf : Space → Nat
  | .hbm => 26
  | .vmem => 14
  | .smem => 1
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S22x512x2560, .fp8e4m3⟩
  | .hbm, ⟨3, _⟩ => ⟨S22x512, .f32⟩
  | .hbm, ⟨4, _⟩ => ⟨S11264x2560, .fp8e5m2⟩
  | .hbm, ⟨5, _⟩ => ⟨S11264, .f32⟩
  | .hbm, ⟨6, _⟩ => ⟨S11264, .i32⟩
  | .hbm, ⟨7, _⟩ => ⟨S11264x32000, .fp8e5m2⟩
  | .hbm, ⟨8, _⟩ => ⟨S11264x2560, .fp8e4m3⟩
  | .hbm, ⟨9, _⟩ => ⟨S11264x25x10, .f32⟩
  | .hbm, ⟨10, _⟩ => ⟨S25x10x11264, .f32⟩
  | .hbm, ⟨11, _⟩ => ⟨S26, .i32⟩
  | .hbm, ⟨12, _⟩ => ⟨S_, .i32⟩
  | .hbm, ⟨13, _⟩ => ⟨S26, .i32⟩
  | .hbm, ⟨14, _⟩ => ⟨S26, .i32⟩
  | .hbm, ⟨15, _⟩ => ⟨S1x11264, .i32⟩
  | .hbm, ⟨16, _⟩ => ⟨S26x1, .i32⟩
  | .hbm, ⟨17, _⟩ => ⟨S26x11264, .i32⟩
  | .hbm, ⟨18, _⟩ => ⟨S26x11264, .i32⟩
  | .hbm, ⟨19, _⟩ => ⟨S26x11264, .i1⟩
  | .hbm, ⟨20, _⟩ => ⟨S26x11264, .i32⟩
  | .hbm, ⟨21, _⟩ => ⟨S_, .i32⟩
  | .hbm, ⟨22, _⟩ => ⟨S1x11264, .f32⟩
  | .hbm, ⟨23, _⟩ => ⟨S44x256, .i32⟩
  | .hbm, ⟨24, _⟩ => ⟨S44x256, .f32⟩
  | .hbm, ⟨25, _⟩ => ⟨S32000x2560, .f32⟩
  | .local _ .vmem, ⟨0, _⟩ => ⟨S1024x1280, .fp8e5m2⟩
  | .local _ .vmem, ⟨1, _⟩ => ⟨S1024x1280, .fp8e5m2⟩
  | .local _ .vmem, ⟨2, _⟩ => ⟨S1x10x1024, .f32⟩
  | .local _ .vmem, ⟨3, _⟩ => ⟨S1x10x1024, .f32⟩
  | .local _ .vmem, ⟨4, _⟩ => ⟨S1x1024, .f32⟩
  | .local _ .vmem, ⟨5, _⟩ => ⟨S1x1024, .f32⟩
  | .local _ .vmem, ⟨6, _⟩ => ⟨S1024x2560, .fp8e4m3⟩
  | .local _ .vmem, ⟨7, _⟩ => ⟨S1024x2560, .fp8e4m3⟩
  | .local _ .vmem, ⟨8, _⟩ => ⟨S44x256, .i32⟩
  | .local _ .vmem, ⟨9, _⟩ => ⟨S44x256, .f32⟩
  | .local _ .vmem, ⟨10, _⟩ => ⟨S1280x2560, .f32⟩
  | .local _ .vmem, ⟨11, _⟩ => ⟨S1280x2560, .f32⟩
  | .local _ .vmem, ⟨12, _⟩ => ⟨S1280x1024, .bf16⟩
  | .local _ .vmem, ⟨13, _⟩ => ⟨S256x2560, .fp8e5m2⟩
  | .local _ .smem, ⟨0, _⟩ => ⟨S26, .i32⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![25, 11], ![false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v150 : BitVec 1 := Scalar.cmpi .eq arg1 c0_i32
  let v151 : BitVec 32 := Scalar.extui v150
  let c0_i32_71 : BitVec 32 := 0#32
  let v152 : BitVec 1 := Scalar.cmpi .ne v151 c0_i32_71
  v152

def k0_off1 (i : grid0.Coords) : Fin 1 → Nat :=
  let arg0 : BitVec 32 := BitVec.ofNat 32 (i 0).val
  let v163 : Index := Scalar.indexCast arg0
  ![v163.toNat]
def k0_off2 (i : grid0.Coords) : Fin 1 → Nat :=
  let arg0 : BitVec 32 := BitVec.ofNat 32 (i 0).val
  let c1_i32_88 : BitVec 32 := 1#32
  let v182 : BitVec 32 := Scalar.addi arg0 c1_i32_88
  let v183 : Index := Scalar.indexCast v182
  ![v183.toNat]
@[reducible] def k0_t1_loop (v164 : BitVec 32) (v184 : BitVec 32) : Scf.Loop 32 :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c256_i32_89 : BitVec 32 := 256#32
  let v185 : BitVec 32 := Scalar.addi v184 c256_i32_89
  let c1_i32_90 : BitVec 32 := 1#32
  let v186 : BitVec 32 := Scalar.subi v185 c1_i32_90
  let c0_i32_92 : BitVec 32 := 0#32
  let v188 : BitVec 1 := Scalar.cmpi .sgt v186 c0_i32_92
  let v189 : BitVec 32 := Scalar.extui v188
  let c0_i32_93 : BitVec 32 := 0#32
  let v190 : BitVec 1 := Scalar.cmpi .slt v186 c0_i32_93
  let v191 : BitVec 32 := Scalar.extui v190
  let v192 : BitVec 32 := Scalar.subi v189 v191
  let c256_i32_91 : BitVec 32 := 256#32
  let c0_i32_94 : BitVec 32 := 0#32
  let v193 : BitVec 1 := Scalar.cmpi .sgt c256_i32_91 c0_i32_94
  let v194 : BitVec 32 := Scalar.extui v193
  let c0_i32_95 : BitVec 32 := 0#32
  let v195 : BitVec 1 := Scalar.cmpi .slt c256_i32_91 c0_i32_95
  let v196 : BitVec 32 := Scalar.extui v195
  let v197 : BitVec 32 := Scalar.subi v194 v196
  let v198 : BitVec 1 := Scalar.cmpi .ne v192 v197
  let v199 : BitVec 32 := Scalar.remsi v186 c256_i32_91
  let c0_i32_96 : BitVec 32 := 0#32
  let v200 : BitVec 1 := Scalar.cmpi .ne v199 c0_i32_96
  let v201 : BitVec 1 := Scalar.andi v198 v200
  let v187 : BitVec 32 := Scalar.divsi v186 c256_i32_91
  let c1_i32_97 : BitVec 32 := 1#32
  let v202 : BitVec 32 := Scalar.subi v187 c1_i32_97
  let v203 : BitVec 32 := Scalar.select v201 v202 v187
  let v204 : BitVec 32 := Scalar.subi v203 v181
  let c1_i32_99 : BitVec 32 := 1#32
  let v206 : BitVec 32 := Scalar.divsi v204 c1_i32_99
  let v207 : BitVec 32 := Scalar.muli v206 c1_i32_99
  let v208 : BitVec 32 := Scalar.addi v181 v207
  let c1_i32_100 : BitVec 32 := 1#32
  ⟨v181, v208, c1_i32_100⟩

def k0_off3 (v164 : BitVec 32) (v184 : BitVec 32) (k0_t1 : Fin (k0_t1_loop v164 v184).trips) : Fin 2 → Nat :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c1_i32_100 : BitVec 32 := 1#32
  let arg14 : BitVec 32 := Scf.iv v181 c1_i32_100 k0_t1
  let c256_i32_102 : BitVec 32 := 256#32
  let v209 : BitVec 32 := Scalar.muli arg14 c256_i32_102
  let c0_i32_103 : BitVec 32 := 0#32
  ![v209.toNat, 0]
def k0_off4 (v164 : BitVec 32) (v184 : BitVec 32) (k0_t1 : Fin (k0_t1_loop v164 v184).trips) : Fin 2 → Nat :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c1_i32_100 : BitVec 32 := 1#32
  let arg14 : BitVec 32 := Scf.iv v181 c1_i32_100 k0_t1
  let v212 : Index := Scalar.indexCast arg14
  let c0_105 : Index := 0#32
  ![v212.toNat, 0]
@[reducible] def k0_t2_loop (v164 : BitVec 32) (v184 : BitVec 32) : Scf.Loop 32 :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c256_i32_89 : BitVec 32 := 256#32
  let v185 : BitVec 32 := Scalar.addi v184 c256_i32_89
  let c1_i32_90 : BitVec 32 := 1#32
  let v186 : BitVec 32 := Scalar.subi v185 c1_i32_90
  let c0_i32_92 : BitVec 32 := 0#32
  let v188 : BitVec 1 := Scalar.cmpi .sgt v186 c0_i32_92
  let v189 : BitVec 32 := Scalar.extui v188
  let c0_i32_93 : BitVec 32 := 0#32
  let v190 : BitVec 1 := Scalar.cmpi .slt v186 c0_i32_93
  let v191 : BitVec 32 := Scalar.extui v190
  let v192 : BitVec 32 := Scalar.subi v189 v191
  let c256_i32_91 : BitVec 32 := 256#32
  let c0_i32_94 : BitVec 32 := 0#32
  let v193 : BitVec 1 := Scalar.cmpi .sgt c256_i32_91 c0_i32_94
  let v194 : BitVec 32 := Scalar.extui v193
  let c0_i32_95 : BitVec 32 := 0#32
  let v195 : BitVec 1 := Scalar.cmpi .slt c256_i32_91 c0_i32_95
  let v196 : BitVec 32 := Scalar.extui v195
  let v197 : BitVec 32 := Scalar.subi v194 v196
  let v198 : BitVec 1 := Scalar.cmpi .ne v192 v197
  let v199 : BitVec 32 := Scalar.remsi v186 c256_i32_91
  let c0_i32_96 : BitVec 32 := 0#32
  let v200 : BitVec 1 := Scalar.cmpi .ne v199 c0_i32_96
  let v201 : BitVec 1 := Scalar.andi v198 v200
  let v187 : BitVec 32 := Scalar.divsi v186 c256_i32_91
  let c1_i32_97 : BitVec 32 := 1#32
  let v202 : BitVec 32 := Scalar.subi v187 c1_i32_97
  let v203 : BitVec 32 := Scalar.select v201 v202 v187
  let v204 : BitVec 32 := Scalar.subi v203 v181
  let c1_i32_99 : BitVec 32 := 1#32
  let v206 : BitVec 32 := Scalar.divsi v204 c1_i32_99
  let v207 : BitVec 32 := Scalar.muli v206 c1_i32_99
  let v208 : BitVec 32 := Scalar.addi v181 v207
  let v205 : BitVec 32 := Scalar.addi v181 v204
  let c1_i32_101 : BitVec 32 := 1#32
  ⟨v208, v205, c1_i32_101⟩
def k0_off5 (v164 : BitVec 32) (v184 : BitVec 32) (k0_t2 : Fin (k0_t2_loop v164 v184).trips) : Fin 2 → Nat :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c256_i32_89 : BitVec 32 := 256#32
  let v185 : BitVec 32 := Scalar.addi v184 c256_i32_89
  let c1_i32_90 : BitVec 32 := 1#32
  let v186 : BitVec 32 := Scalar.subi v185 c1_i32_90
  let c0_i32_92 : BitVec 32 := 0#32
  let v188 : BitVec 1 := Scalar.cmpi .sgt v186 c0_i32_92
  let v189 : BitVec 32 := Scalar.extui v188
  let c0_i32_93 : BitVec 32 := 0#32
  let v190 : BitVec 1 := Scalar.cmpi .slt v186 c0_i32_93
  let v191 : BitVec 32 := Scalar.extui v190
  let v192 : BitVec 32 := Scalar.subi v189 v191
  let c256_i32_91 : BitVec 32 := 256#32
  let c0_i32_94 : BitVec 32 := 0#32
  let v193 : BitVec 1 := Scalar.cmpi .sgt c256_i32_91 c0_i32_94
  let v194 : BitVec 32 := Scalar.extui v193
  let c0_i32_95 : BitVec 32 := 0#32
  let v195 : BitVec 1 := Scalar.cmpi .slt c256_i32_91 c0_i32_95
  let v196 : BitVec 32 := Scalar.extui v195
  let v197 : BitVec 32 := Scalar.subi v194 v196
  let v198 : BitVec 1 := Scalar.cmpi .ne v192 v197
  let v199 : BitVec 32 := Scalar.remsi v186 c256_i32_91
  let c0_i32_96 : BitVec 32 := 0#32
  let v200 : BitVec 1 := Scalar.cmpi .ne v199 c0_i32_96
  let v201 : BitVec 1 := Scalar.andi v198 v200
  let v187 : BitVec 32 := Scalar.divsi v186 c256_i32_91
  let c1_i32_97 : BitVec 32 := 1#32
  let v202 : BitVec 32 := Scalar.subi v187 c1_i32_97
  let v203 : BitVec 32 := Scalar.select v201 v202 v187
  let v204 : BitVec 32 := Scalar.subi v203 v181
  let c1_i32_99 : BitVec 32 := 1#32
  let v206 : BitVec 32 := Scalar.divsi v204 c1_i32_99
  let v207 : BitVec 32 := Scalar.muli v206 c1_i32_99
  let v208 : BitVec 32 := Scalar.addi v181 v207
  let c1_i32_101 : BitVec 32 := 1#32
  let arg14 : BitVec 32 := Scf.iv v208 c1_i32_101 k0_t2
  let c256_i32_102 : BitVec 32 := 256#32
  let v209 : BitVec 32 := Scalar.muli arg14 c256_i32_102
  let c0_i32_103 : BitVec 32 := 0#32
  ![v209.toNat, 0]
def k0_off6 (v164 : BitVec 32) (v184 : BitVec 32) (k0_t2 : Fin (k0_t2_loop v164 v184).trips) : Fin 2 → Nat :=
  let c0_i32_83 : BitVec 32 := 0#32
  let v166 : BitVec 1 := Scalar.cmpi .sgt v164 c0_i32_83
  let v167 : BitVec 32 := Scalar.extui v166
  let c0_i32_84 : BitVec 32 := 0#32
  let v168 : BitVec 1 := Scalar.cmpi .slt v164 c0_i32_84
  let v169 : BitVec 32 := Scalar.extui v168
  let v170 : BitVec 32 := Scalar.subi v167 v169
  let c256_i32 : BitVec 32 := 256#32
  let c0_i32_85 : BitVec 32 := 0#32
  let v171 : BitVec 1 := Scalar.cmpi .sgt c256_i32 c0_i32_85
  let v172 : BitVec 32 := Scalar.extui v171
  let c0_i32_86 : BitVec 32 := 0#32
  let v173 : BitVec 1 := Scalar.cmpi .slt c256_i32 c0_i32_86
  let v174 : BitVec 32 := Scalar.extui v173
  let v175 : BitVec 32 := Scalar.subi v172 v174
  let v176 : BitVec 1 := Scalar.cmpi .ne v170 v175
  let v177 : BitVec 32 := Scalar.remsi v164 c256_i32
  let c0_i32_87 : BitVec 32 := 0#32
  let v178 : BitVec 1 := Scalar.cmpi .ne v177 c0_i32_87
  let v179 : BitVec 1 := Scalar.andi v176 v178
  let v165 : BitVec 32 := Scalar.divsi v164 c256_i32
  let c1_i32 : BitVec 32 := 1#32
  let v180 : BitVec 32 := Scalar.subi v165 c1_i32
  let v181 : BitVec 32 := Scalar.select v179 v180 v165
  let c256_i32_89 : BitVec 32 := 256#32
  let v185 : BitVec 32 := Scalar.addi v184 c256_i32_89
  let c1_i32_90 : BitVec 32 := 1#32
  let v186 : BitVec 32 := Scalar.subi v185 c1_i32_90
  let c0_i32_92 : BitVec 32 := 0#32
  let v188 : BitVec 1 := Scalar.cmpi .sgt v186 c0_i32_92
  let v189 : BitVec 32 := Scalar.extui v188
  let c0_i32_93 : BitVec 32 := 0#32
  let v190 : BitVec 1 := Scalar.cmpi .slt v186 c0_i32_93
  let v191 : BitVec 32 := Scalar.extui v190
  let v192 : BitVec 32 := Scalar.subi v189 v191
  let c256_i32_91 : BitVec 32 := 256#32
  let c0_i32_94 : BitVec 32 := 0#32
  let v193 : BitVec 1 := Scalar.cmpi .sgt c256_i32_91 c0_i32_94
  let v194 : BitVec 32 := Scalar.extui v193
  let c0_i32_95 : BitVec 32 := 0#32
  let v195 : BitVec 1 := Scalar.cmpi .slt c256_i32_91 c0_i32_95
  let v196 : BitVec 32 := Scalar.extui v195
  let v197 : BitVec 32 := Scalar.subi v194 v196
  let v198 : BitVec 1 := Scalar.cmpi .ne v192 v197
  let v199 : BitVec 32 := Scalar.remsi v186 c256_i32_91
  let c0_i32_96 : BitVec 32 := 0#32
  let v200 : BitVec 1 := Scalar.cmpi .ne v199 c0_i32_96
  let v201 : BitVec 1 := Scalar.andi v198 v200
  let v187 : BitVec 32 := Scalar.divsi v186 c256_i32_91
  let c1_i32_97 : BitVec 32 := 1#32
  let v202 : BitVec 32 := Scalar.subi v187 c1_i32_97
  let v203 : BitVec 32 := Scalar.select v201 v202 v187
  let v204 : BitVec 32 := Scalar.subi v203 v181
  let c1_i32_99 : BitVec 32 := 1#32
  let v206 : BitVec 32 := Scalar.divsi v204 c1_i32_99
  let v207 : BitVec 32 := Scalar.muli v206 c1_i32_99
  let v208 : BitVec 32 := Scalar.addi v181 v207
  let c1_i32_101 : BitVec 32 := 1#32
  let arg14 : BitVec 32 := Scf.iv v208 c1_i32_101 k0_t2
  let v212 : Index := Scalar.indexCast arg14
  let c0_105 : Index := 0#32
  ![v212.toNat, 0]

def k0_chk1 (i : grid0.Coords) (v164 : BitVec 32) (v184 : BitVec 32) : Prop :=
  (∀ (k0_h1 : k0_cond1 i = 1#1), (k0_t1_loop v164 v184).OK) ∧
  (∀ k0_t1 : Fin (k0_t1_loop v164 v184).trips, ∀ (k0_h1 : k0_cond1 i = 1#1), ∀ a, (k0_off3 v164 v184 k0_t1) a + S256x2560.size a ≤ S11264x2560.size a) ∧
  (∀ k0_t1 : Fin (k0_t1_loop v164 v184).trips, ∀ (k0_h1 : k0_cond1 i = 1#1), ∀ (hinb : ∀ a, (k0_off3 v164 v184 k0_t1) a + S256x2560.size a ≤ S11264x2560.size a), (Rect.unit (s := S11264x2560) (k0_off3 v164 v184 k0_t1) S256x2560.size hinb).WholeWords (EltTy.packing .fp8e5m2)) ∧
  (∀ k0_t1 : Fin (k0_t1_loop v164 v184).trips, ∀ (k0_h1 : k0_cond1 i = 1#1), ∀ a, (k0_off4 v164 v184 k0_t1) a + S1x256.size a ≤ S44x256.size a) ∧
  (∀ (k0_h1 : k0_cond1 i = 1#1), (k0_t2_loop v164 v184).OK) ∧
  (∀ k0_t2 : Fin (k0_t2_loop v164 v184).trips, ∀ (k0_h1 : k0_cond1 i = 1#1), ∀ a, (k0_off5 v164 v184 k0_t2) a + S256x2560.size a ≤ S11264x2560.size a) ∧
  (∀ k0_t2 : Fin (k0_t2_loop v164 v184).trips, ∀ (k0_h1 : k0_cond1 i = 1#1), ∀ (hinb : ∀ a, (k0_off5 v164 v184 k0_t2) a + S256x2560.size a ≤ S11264x2560.size a), (Rect.unit (s := S11264x2560) (k0_off5 v164 v184 k0_t2) S256x2560.size hinb).WholeWords (EltTy.packing .fp8e5m2)) ∧
  (∀ k0_t2 : Fin (k0_t2_loop v164 v184).trips, ∀ (k0_h1 : k0_cond1 i = 1#1), ∀ a, (k0_off6 v164 v184 k0_t2) a + S1x256.size a ≤ S44x256.size a)
theorem k0_t1_ok : ∀ (i : grid0.Coords) (v164 : BitVec 32) (v184 : BitVec 32) (k0_hw1 : k0_chk1 i v164 v184), ∀ (k0_h1 : k0_cond1 i = 1#1), (k0_t1_loop v164 v184).OK := fun i v164 v184 k0_hw1 k0_h1 => k0_hw1.1 k0_h1
theorem k0_off3_inb : ∀ (i : grid0.Coords) (v164 : BitVec 32) (v184 : BitVec 32) (k0_hw1 : k0_chk1 i v164 v184) (k0_t1 : Fin (k0_t1_loop v164 v184).trips), ∀ (k0_h1 : k0_cond1 i = 1#1), ∀ a, (k0_off3 v164 v184 k0_t1) a + S256x2560.size a ≤ S11264x2560.size a := fun i v164 v184 k0_hw1 k0_t1 k0_h1 => k0_hw1.2.1 k0_t1 k0_h1
theorem k0_off3_wordsfp8e5m2 : ∀ (i : grid0.Coords) (v164 : BitVec 32) (v184 : BitVec 32) (k0_hw1 : k0_chk1 i v164 v184) (k0_t1 : Fin (k0_t1_loop v164 v184).trips), ∀ (k0_h1 : k0_cond1 i = 1#1), (Rect.unit (s := S11264x2560) (k0_off3 v164 v184 k0_t1) S256x2560.size (k0_off3_inb i v164 v184 k0_hw1 k0_t1 k0_h1)).WholeWords (EltTy.packing .fp8e5m2) := fun i v164 v184 k0_hw1 k0_t1 k0_h1 => k0_hw1.2.2.1 k0_t1 k0_h1 (k0_off3_inb i v164 v184 k0_hw1 k0_t1 k0_h1)
theorem k0_off4_inb : ∀ (i : grid0.Coords) (v164 : BitVec 32) (v184 : BitVec 32) (k0_hw1 : k0_chk1 i v164 v184) (k0_t1 : Fin (k0_t1_loop v164 v184).trips), ∀ (k0_h1 : k0_cond1 i = 1#1), ∀ a, (k0_off4 v164 v184 k0_t1) a + S1x256.size a ≤ S44x256.size a := fun i v164 v184 k0_hw1 k0_t1 k0_h1 => k0_hw1.2.2.2.1 k0_t1 k0_h1
theorem k0_t2_ok : ∀ (i : grid0.Coords) (v164 : BitVec 32) (v184 : BitVec 32) (k0_hw1 : k0_chk1 i v164 v184), ∀ (k0_h1 : k0_cond1 i = 1#1), (k0_t2_loop v164 v184).OK := fun i v164 v184 k0_hw1 k0_h1 => k0_hw1.2.2.2.2.1 k0_h1
theorem k0_off5_inb : ∀ (i : grid0.Coords) (v164 : BitVec 32) (v184 : BitVec 32) (k0_hw1 : k0_chk1 i v164 v184) (k0_t2 : Fin (k0_t2_loop v164 v184).trips), ∀ (k0_h1 : k0_cond1 i = 1#1), ∀ a, (k0_off5 v164 v184 k0_t2) a + S256x2560.size a ≤ S11264x2560.size a := fun i v164 v184 k0_hw1 k0_t2 k0_h1 => k0_hw1.2.2.2.2.2.1 k0_t2 k0_h1
theorem k0_off5_wordsfp8e5m2 : ∀ (i : grid0.Coords) (v164 : BitVec 32) (v184 : BitVec 32) (k0_hw1 : k0_chk1 i v164 v184) (k0_t2 : Fin (k0_t2_loop v164 v184).trips), ∀ (k0_h1 : k0_cond1 i = 1#1), (Rect.unit (s := S11264x2560) (k0_off5 v164 v184 k0_t2) S256x2560.size (k0_off5_inb i v164 v184 k0_hw1 k0_t2 k0_h1)).WholeWords (EltTy.packing .fp8e5m2) := fun i v164 v184 k0_hw1 k0_t2 k0_h1 => k0_hw1.2.2.2.2.2.2.1 k0_t2 k0_h1 (k0_off5_inb i v164 v184 k0_hw1 k0_t2 k0_h1)
theorem k0_off6_inb : ∀ (i : grid0.Coords) (v164 : BitVec 32) (v184 : BitVec 32) (k0_hw1 : k0_chk1 i v164 v184) (k0_t2 : Fin (k0_t2_loop v164 v184).trips), ∀ (k0_h1 : k0_cond1 i = 1#1), ∀ a, (k0_off6 v164 v184 k0_t2) a + S1x256.size a ≤ S44x256.size a := fun i v164 v184 k0_hw1 k0_t2 k0_h1 => k0_hw1.2.2.2.2.2.2.2 k0_t2 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S44x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S44x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1280x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DwRefIdeal.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S32000x2560 : Shape := ⟨2, ![32000, 2560]⟩
abbrev S22x512x250x128 : Shape := ⟨4, ![22, 512, 250, 128]⟩
abbrev S22x512x250x1 : Shape := ⟨4, ![22, 512, 250, 1]⟩
abbrev S22x512x1 : Shape := ⟨3, ![22, 512, 1]⟩
abbrev S11264x1 : Shape := ⟨2, ![11264, 1]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S22x512x2560, .fp8e4m3⟩
  | .hbm, ⟨3, _⟩ => ⟨S22x512, .f32⟩
  | .hbm, ⟨4, _⟩ => ⟨S11264x2560, .fp8e5m2⟩
  | .hbm, ⟨5, _⟩ => ⟨S11264, .f32⟩
  | .hbm, ⟨6, _⟩ => ⟨S11264, .i32⟩
  | .hbm, ⟨7, _⟩ => ⟨S11264x2560, .f32⟩
  | .hbm, ⟨8, _⟩ => ⟨S32000x2560, .f32⟩
  | .hbm, ⟨9, _⟩ => ⟨S_, .f32⟩
  | .hbm, ⟨10, _⟩ => ⟨S32000x2560, .f32⟩
  | .hbm, ⟨11, _⟩ => ⟨S11264x1, .i32⟩
  | .hbm, ⟨12, _⟩ => ⟨S32000x2560, .f32⟩
  | .hbm, ⟨13, _⟩ => ⟨S32000x2560, .f32⟩
  | .local _ .vmem, ⟨0, _⟩ => ⟨S22x512x32000, .fp8e5m2⟩
  | .local _ .vmem, ⟨1, _⟩ => ⟨S22x512x250, .f32⟩
  | .local _ .vmem, ⟨2, _⟩ => ⟨S22x512x2560, .fp8e4m3⟩
  | .local _ .vmem, ⟨3, _⟩ => ⟨S22x512, .f32⟩
  | .local _ .vmem, ⟨4, _⟩ => ⟨S11264x2560, .fp8e5m2⟩
  | .local _ .vmem, ⟨5, _⟩ => ⟨S11264, .f32⟩
  | .local _ .vmem, ⟨6, _⟩ => ⟨S11264x2560, .f32⟩
  | .local _ .vmem, ⟨7, _⟩ => ⟨S32000x2560, .f32⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S22x512x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x512x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22x512x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11264x2560 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11264x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32000x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.DxValue.lean ====
module

public import proofs.«01_k».proof.Proof.Gen.DxIdeal.Value
public import proofs.«01_k».proof.Proof.Gen.DxRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

/-- The first store of a row block fills it with zeros. -/
theorem zero_fill (j) : k0_pay2 (F := Ideal) j = 0 := by pointwise [k0_pay2]

/-- The accumulating store: what was there plus one product. -/
theorem accumulate (acc : Vec Ideal S1408x2560 .f32) (G : Vec Ideal S1408x1280 .bf16) (W : Vec Ideal S1280x2560 .fp8e4m3) (j) :
    k0_pay3 acc G W j = acc j + ∑ k : Fin 1280, G (ix2 (j 0) k) * W (ix2 k (j 1)) := by pointwise [k0_pay3]

/-- The kernel's whole result, in the reference's spelling. -/
abbrev REF (a0 : Vec Ideal S22x512x32000 .fp8e5m2) (a1 : Vec Ideal S22x512x250 .f32) (a2 : Vec Ideal S32000x2560 .fp8e4m3)
    (a3 : Vec Ideal S32000 .f32) : Vec Ideal S11264x2560 .f32 := Cert.DxRefIdeal.Gen.k0_pay1 (F := Ideal) a0 a1 a2 a3

theorem ref_at (a0 : Vec Ideal S22x512x32000 .fp8e5m2) (a1 : Vec Ideal S22x512x250 .f32) (a2 : Vec Ideal S32000x2560 .fp8e4m3)
    (a3 : Vec Ideal S32000 .f32) (j) : REF a0 a1 a2 a3 j
      = ∑ x : Fin 32000, a0 (ix3 ⟨j 0 / 512, by idx_bounds; omega⟩ ⟨j 0 % 512, by omega⟩ x)
          * a1 (ix3 ⟨j 0 / 512, by idx_bounds; omega⟩ ⟨j 0 % 512, by omega⟩ ⟨x / 128, by omega⟩) * (a2 (ix2 x (j 1)) * a3 (ix1 x)) := by
  pointwise [REF, Cert.DxRefIdeal.Gen.k0_pay1]

/-- The scaled block of logit gradients the body leaves in its scratch buffer. -/
def scaled (x0 : Vec Ideal S1408x1280 .fp8e5m2) (x1 : Vec Ideal S1x1408x10 .f32) (x3 : Vec Ideal S1x1280 .f32) : Vec Ideal S1408x1280 .bf16 :=
  fun y => x0 y * (x1 (ix3 0 (y 0) ⟨y 1 / 128, by idx_bounds; omega⟩) * x3 (ix2 0 (y 1)))

/-- A load of a whole buffer after stores reads the stores' canonical contents. -/
theorem load_whole {S : Shape} {e : EltTy} {sp : Space} (v : View sig .tc sp S e) (L : List (View.Piece (Elt Ideal) S e)) {off : Fin S.rank → Nat}
    (h : ∀ a, off a = 0) (inb : ∀ a, off a + S.size a ≤ S.size a) :
    v.readCov L (Rect.unit off S.size inb).toLoadRect = View.canon L :=
  (View.readCov_eq_canon' v L _).trans (View.ld_unit_lit inb (View.canon L) h)

/-- What the first point of a row block leaves. -/
theorem stepA (c : Dev nD) (t : Fin cfg0.N) (h : t.val % 25 = 0) : outsAt0 m c t.val t.isLt =
    k0_pay3 k0_pay2 (scaled (iblk m c 0 t) (iblk m c 1 t) (iblk m c 3 t)) (iblk m c 2 t) := by
  rw [outsAt0_A m c t h]; frame_out
  refine congrArg (fun G => k0_pay3 k0_pay2 G (iblk m c 2 t)) ?_
  rw [load_whole _ _ (by decide)]
  generalize iblk m c 0 t = x0
  generalize iblk m c 1 t = x1
  generalize iblk m c 3 t = x3
  funext y
  canon_tiles x hx
  all_goals (open_payloads; pointwise [scaled]; blk_point [])

/-- What a later point leaves, over what the point before it left. -/
theorem stepB (c : Dev nD) (t : Fin cfg0.N) (h : ¬t.val % 25 = 0) : outsAt0 m c t.val t.isLt =
    k0_pay3 (outsAt0 m c (t.val - 1) (Nat.lt_of_le_of_lt (Nat.sub_le _ _) t.isLt)) (scaled (iblk m c 0 t) (iblk m c 1 t) (iblk m c 3 t)) (iblk m c 2 t) := by
  rw [outsAt0_B m c t h]; frame_out
  refine congrArg (fun G => k0_pay3 (outsAt0 m c (t.val - 1) (Nat.lt_of_le_of_lt (Nat.sub_le _ _) t.isLt)) G (iblk m c 2 t)) ?_
  rw [load_whole _ _ (by decide)]
  generalize iblk m c 0 t = x0
  generalize iblk m c 1 t = x1
  generalize iblk m c 3 t = x3
  funext y
  canon_tiles x hx
  all_goals (open_payloads; pointwise [scaled]; blk_point [])

/-- The two orders in which kernel and reference multiply the four factors. -/
theorem regroup (g s w ws : EReal) : g * (s * ws) * w = g * s * (w * ws) := by ac_rfl

/-- The windows' block indices at every grid point. -/
theorem idx : ∀ t : Fin cfg0.N, win0_0.index t = ![t.val / 25, t.val % 25] ∧ win0_1.index t = ![t.val % 25, t.val / 25, 0]
    ∧ win0_2.index t = ![t.val % 25, 0] ∧ win0_3.index t = ![0, t.val % 25] ∧ win0_4.index t = ![t.val / 25, 0] :=
  (by decide +kernel : ∀ t : Fin grid0.N, _)

theorem scaled_at (x0 : Vec Ideal S1408x1280 .fp8e5m2) (x1 : Vec Ideal S1x1408x10 .f32) (x3 : Vec Ideal S1x1280 .f32) (p : Fin 1408) (k : Fin 1280) :
    scaled x0 x1 x3 (ix2 p k) = x0 (ix2 p k) * (x1 (ix3 0 p ⟨k.val / 128, by omega⟩) * x3 (ix2 0 k)) := rfl

/-- Each input block at its coordinates, read off the arguments. -/
theorem blk0 (c : Dev nD) (t : Fin cfg0.N) (p : Fin 1408) (k : Fin 1280) (a : Fin 22) (b : Fin 512) (v : Fin 32000)
    (h0 : (a : ℕ) = (t.val / 25 * 1408 + p.val) / 512) (h1 : (b : ℕ) = (t.val / 25 * 1408 + p.val) % 512) (h2 : (v : ℕ) = t.val % 25 * 1280 + k.val) :
    iblk m c 0 t (ix2 p k) = m ((c : Thread nD τ).loc main_arg0) (ix3 a b v) := by
  blk_simp [iblk, idx t]
  entry_read
  pointwise
  blk_ext [idx t]
theorem blk1 (c : Dev nD) (t : Fin cfg0.N) (p : Fin 1408) (k : Fin 10) (a : Fin 22) (b : Fin 512) (v : Fin 250)
    (h0 : (a : ℕ) = (t.val / 25 * 1408 + p.val) / 512) (h1 : (b : ℕ) = (t.val / 25 * 1408 + p.val) % 512) (h2 : (v : ℕ) = t.val % 25 * 10 + k.val) :
    iblk m c 1 t (ix3 0 p k) = m ((c : Thread nD τ).loc main_arg1) (ix3 a b v) := by
  blk_simp [iblk, idx t]
  entry_read
  pointwise
  blk_ext [idx t]
theorem blk2 (c : Dev nD) (t : Fin cfg0.N) (k : Fin 1280) (d : Fin 2560) (v : Fin 32000) (d' : Fin 2560)
    (h0 : (v : ℕ) = t.val % 25 * 1280 + k.val) (h1 : (d' : ℕ) = d) :
    iblk m c 2 t (ix2 k d) = m ((c : Thread nD τ).loc main_arg2) (ix2 v d') := by
  blk_ext [iblk, V, idx t]
theorem blk3 (c : Dev nD) (t : Fin cfg0.N) (k : Fin 1280) (v : Fin 32000)
    (h0 : (v : ℕ) = t.val % 25 * 1280 + k.val) :
    iblk m c 3 t (ix2 0 k) = m ((c : Thread nD τ).loc main_arg3) (ix1 v) := by
  blk_simp [iblk, idx t]
  entry_read
  pointwise
  blk_ext [idx t]

/-- One term of the kernel's sum is one term of the reference's. -/
theorem point (c : Dev nD) (t : Fin cfg0.N) (p : Fin 1408) (k : Fin 1280) (d : Fin 2560) (r : Fin 11264) (v : Fin 32000) (d' : Fin 2560)
    (hr : (r : ℕ) = t.val / 25 * 1408 + p.val) (hv : (v : ℕ) = t.val % 25 * 1280 + k.val) (hd : (d' : ℕ) = d) :
    scaled (iblk m c 0 t) (iblk m c 1 t) (iblk m c 3 t) (ix2 p k) * (show FVec Ideal S1280x2560 .fp8e4m3 from iblk m c 2 t) (ix2 k d)
      = (show FVec Ideal S22x512x32000 .fp8e5m2 from m ((c : Thread nD τ).loc main_arg0)) (ix3 ⟨r / 512, by omega⟩ ⟨r % 512, by omega⟩ v)
          * (show FVec Ideal S22x512x250 .f32 from m ((c : Thread nD τ).loc main_arg1)) (ix3 ⟨r / 512, by omega⟩ ⟨r % 512, by omega⟩ ⟨v / 128, by omega⟩)
          * ((show FVec Ideal S32000x2560 .fp8e4m3 from m ((c : Thread nD τ).loc main_arg2)) (ix2 v d') * (show FVec Ideal S32000 .f32 from m ((c : Thread nD τ).loc main_arg3)) (ix1 v)) := by
  refine Eq.trans ?_ (regroup _ _ _ _)
  rw [scaled_at]
  refine congrArg₂ (fun a b : EReal => a * b) (congrArg₂ (fun a b : EReal => a * b) ?_ (congrArg₂ (fun a b : EReal => a * b) ?_ ?_)) ?_
  · exact blk0 m c t _ _ _ _ _ (by simp only [hr]) (by simp only [hr]) hv
  · exact blk1 m c t _ _ _ _ _ (by simp only [hr]) (by simp only [hr]) (by simp only [hv]; omega)
  · exact blk3 m c t _ _ hv
  · exact blk2 m c t _ _ _ _ hv hd

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 25 (fun _ => 0)
    (fun p j => ∑ k : Fin 1280, scaled (iblk m c 0 p) (iblk m c 1 p) (iblk m c 3 p) (ix2 (j 0) k) * (show FVec Ideal S1280x2560 .fp8e4m3 from iblk m c 2 p) (ix2 k (j 1)))
    (fun t h j => by rw [stepA m c t h]; rw [accumulate, zero_fill])
    (fun t h j => by rw [stepB m c t h]; rw [accumulate])
    t ((flush0_4 t).mp hf) _, zero_add, ref_at]
  refine Fin.sum_mul_add_congr fun s k hl => ?_
  have hN : t.val < 200 := lt_of_lt_of_eq t.isLt N_0
  have hp : 25 * (t.val / 25) + s.val < cfg0.N := Pipeline.run_point_lt_of_flush t ((flush0_4 t).mp hf) s
  have e0 : ((((cfg0.win 4).blk t).view.emb y) 0 : ℕ) = t.val / 25 * 1408 + (y 0 : ℕ) := by blk_simp [idx t]
  have e1 : ((((cfg0.win 4).blk t).view.emb y) 1 : ℕ) = (y 1 : ℕ) := by blk_simp [idx t]; try omega
  have hs := s.isLt
  have hk := k.isLt
  have q0 : (25 * (t.val / 25) + s.val) / 25 = t.val / 25 := by omega
  have q1 : (25 * (t.val / 25) + s.val) % 25 = s.val := by omega
  exact point m c ⟨_, hp⟩ (y 0) k (y 1) _ _ _ (e0.trans (by show _ = (25 * (t.val / 25) + s.val) / 25 * 1408 + _; rw [q0]))
    (by show s.val * 1280 + k.val = (25 * (t.val / 25) + s.val) % 25 * 1280 + k.val; rw [q1]) e1

end Cert.DxIdeal.Value

end
-- ==== Proof.Dw.Points.lean ====
/- The schedule of the weight-gradient call on its static grid of 25 x 11 points: per window, at which points the pipeline
   fetches it and at which it writes it back, the staging memrefs at a point, and the body as the pipeline calls it there.
   Follows the generated schedule of a kernel of this form. -/
module

public import proofs.«01_k».proof.Proof.Gen.Dw
public import Idealize.ShloMosaic.Lib.Pipeline.Kit

@[expose] public section

noncomputable section

namespace Cert.Dw.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%3)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%14)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%15)) is fetched at the first point only, at any contents of the tables (its index map reads none). -/
theorem fetch0_4 (a : (pcfg0 (F := F)).Adm) : ∀ t : Fin (cfg0 a).N, ((cfg0 a).win 4).fetch t = true ↔ t.val % 275 = 0 :=
  (fun t => Pipeline.Window.fetchOf_const cc0_transform_4 (fun _ _ => rfl) (n := 275) (by decide) t : ∀ t : Fin grid0.N, Pipeline.Window.fetchOf grid0 false cc0_transform_4 t = true ↔ t.val % 275 = 0)
/-- Window 5 (operand 6 (%16)) is fetched at the first point only, at any contents of the tables (its index map reads none). -/
theorem fetch0_5 (a : (pcfg0 (F := F)).Adm) : ∀ t : Fin (cfg0 a).N, ((cfg0 a).win 5).fetch t = true ↔ t.val % 275 = 0 :=
  (fun t => Pipeline.Window.fetchOf_const cc0_transform_5 (fun _ _ => rfl) (n := 275) (by decide) t : ∀ t : Fin grid0.N, Pipeline.Window.fetchOf grid0 false cc0_transform_5 t = true ↔ t.val % 275 = 0)
/-- Window 6 (result 0 (%17)) is written back at the points ≡ 10 (mod 11), at any contents of the tables (its index map reads none). -/
theorem flush0_6 (a : (pcfg0 (F := F)).Adm) : ∀ t : Fin (cfg0 a).N, ((cfg0 a).win 6).flush t = true ↔ t.val % 11 = 10 :=
  (fun t => Pipeline.Window.flushOf_reads cc0_transform_7 reads0_6 hreads0_6 0 (by decide) (by decide) (Pipeline.Window.sep_of_coord cc0_transform_7 0 0 (fun _ => rfl) (by decide)) (P := 11) (m := 10) (by decide) rfl t : ∀ t : Fin grid0.N, Pipeline.Window.flushOf grid0 true cc0_transform_7 t = true ↔ t.val % 11 = 10)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dw (grid0.coords t) (Memref.whole main_v13) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole main_arg4) (Memref.isWhole_whole _) (spec0_6.stage ((cfg0 a).slots t 6)) (hstage0_6 (((cfg0 a).slots t 6).cast nbuf0_6)) (Memref.whole cc0_scratch0) (Memref.isWhole_whole _) (Memref.whole cc0_scratch1) (Memref.isWhole_whole _) cc0_scratch2

end Cert.Dw.Gen

end
-- ==== Proof.Dw.Runs.lean ====
/- What the two runs of the weight-gradient body share: the host lines before the region, the prefetched table, the windows'
   blocks, the branch condition, the staging memrefs, and the side condition the body assumes of the two words it loads from
   the table (`Hyps`). Follows the generated kit of a kernel of this form; here the table is read at the grid's own
   coordinate, cells `i` and `i + 1`. -/
module

public import proofs.«01_k».proof.Proof.Gen.Dw.Launch
public import proofs.«01_k».proof.Proof.Gen.Dw.Skeleton
public import proofs.«01_k».proof.Proof.Gen.Dw.Loops
public import proofs.«01_k».proof.Proof.Dw.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S26 .i32 := Memref.whole main_v13
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Dw`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 11) — by arithmetic of the point. -/
theorem hcond0_0 : ∀ t : Fin grid0.N, cond0_0 (grid0.coords t) ↔ t.val % 11 = 0 :=
  (fun t => by
    have ht : t.val < 275 := Nat.lt_of_lt_of_eq t.isLt N_0
    have e0 : (grid0.coords t 0).val = t.val / 11 % 25 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x1280 .fp8e5m2 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x10x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x2560 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S44x256 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S44x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1280x2560 .f32 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos))))
variable {m} in
theorem Hyps.c0 {hO : Ok m} (hH : Hyps m hO) (c : Dev nD) (t : Fin (cfgM m hO).N) :
    (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos)))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1280x1024 .bf16 := Memref.whole cc0_scratch0
abbrev scM0_1 : Memref sig .tc .vmem S256x2560 .fp8e5m2 := Memref.whole cc0_scratch1
/-- The operands left in HBM that the body copies into scratch itself, whole. -/
abbrev hbM0_0 : Memref sig .tc .hbm S11264x2560 .fp8e5m2 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 12] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 12) 0) := by
  rw [Pipeline.ownSems0_eq_of_list c osem0 [0] (by decide) (by decide)]; rfl
/-- The HBM operands the body moves, as references: unscoped, no window's array, no table (`Pipeline.restRefsP`). -/
def H0 : Finset (Ref sig .tc) := {main_arg4}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg4)) := by
  rw [BI.bigSep_eq_bigSepL_of_eq [main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 12) 0) ∗ iprop(hbPt0 c hbM0_0 (V m c main_arg4))) := by
  rw [Pipeline.ΦD_eq, scopedRest0_eq, ownSems00_eq, hbmPts0_eq]; simp only [scM0_0, scM0_1, owns_whole]; try rfl

end Cert.Dw.Gen

end
-- ==== Proof.Dw.RunA.lean ====
/- The weight-gradient body at a point that starts a block of the vocabulary (`j = 0`): it zeroes the block, adds the
   embedding rows trip by trip, then adds its token block's product. -/
module

public import proofs.«01_k».proof.Proof.Dw.Runs

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 11, … 264: 25 of 275): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (fh0 : HbBuf0 (F := F) c hbM0_0) (k0_hw1 : k0_chk1 i (tbM0_0.view.readAt (Elt F) (Rect.unit (s := S26) (k0_off1 i) S1.size (k0_off1_inb i hc0)).toLoadRect xt0 (Shape.Idx.first (numel1_S1.symm ▸ Nat.one_pos))) (tbM0_0.view.readAt (Elt F) (Rect.unit (s := S26) (k0_off2 i) S1.size (k0_off2_inb i hc0)).toLoadRect xt0 (Shape.Idx.first (numel1_S1.symm ▸ Nat.one_pos)))) :
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_dw i tbM0_0 htbM0_0 arg3 harg3 arg4 harg4 arg5 harg5 arg6 harg6 arg7 harg7 arg8 harg8 (Memref.whole main_arg4) (Memref.isWhole_whole _) arg10 harg10 arg11 harg11 arg12 harg12 cc0_scratch2) K := by
    intro W K
    simp only [cc0_dw_eq_skeleton]; unfold cc0_dw_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hq0, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.Dw.Gen

end
-- ==== Proof.Dw.RunB.lean ====
/- The weight-gradient body at a point inside a block of the vocabulary (`j > 0`): it adds its token block's product. -/
module

public import proofs.«01_k».proof.Proof.Dw.RunA

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 274: 250 of 275): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : ¬cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (fh0 : HbBuf0 (F := F) c hbM0_0) :
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_dw i tbM0_0 htbM0_0 arg3 harg3 arg4 harg4 arg5 harg5 arg6 harg6 arg7 harg7 arg8 harg8 (Memref.whole main_arg4) (Memref.isWhole_whole _) arg10 harg10 arg11 harg11 arg12 harg12 cc0_scratch2) K := by
    intro W K
    simp only [cc0_dw_eq_skeleton]; unfold cc0_dw_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hq0, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.Dw.Gen

end
-- ==== Proof.Dw.Frame.lean ====
/- The weight-gradient call from its two runs: what the output's buffer holds after each point (`outsAt0`), the pipeline's
   proof data, the body obligation, the launch, and the frame, all under the table's two side conditions. -/
module

public import proofs.«01_k».proof.Proof.Dw.RunB
public import Idealize.ShloMosaic.Lib.Claim

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents; and the tables' halves, `ΦT`); nothing owed; full shares. -/
def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp (MT nD τ sig Unit (Elt F) ℕ (Pipeline.UD sig nD τ) ℕ) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare d))

/-- and what it returns. -/
def bodyPost (hO : Ok m) (hH : Hyps m hO) (c : Dev nD) (t : Fin (cfgM m hO).N) : sProp (MT nD τ sig Unit (Elt F) ℕ (Pipeline.UD sig nD τ) ℕ) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ (∃ d, owns (c : Thread nD τ) (ms0_6 m hO t) fullShare d))

set_option maxHeartbeats 1600000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    after0_0, after0_1, after0_2, after0_3, after0_4, after0_5]
  rw [show (dats m hO hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hH 0 c).owed t.castSucc = 0 from rfl, show (dats m hO hH 0 c).owed t.succ = 0 from rfl]
  have hN : t.val < 275 := lt_of_lt_of_eq t.isLt (show (cfgM m hO).N = 275 from N_0)
  by_cases h0 : t.val % 11 = 0
  · iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (V m c main_arg4) ((Hyps.c0 hH c t) ((hcond0_0 t).mpr h0))) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [Hq0]; · iexact Hq0
    isplitl [Hh0]; · iexact Hh0
    isplitl [HW]; · iexact HW
    iintro ⟨H0, H1, H2, H3, H4, H5, H6, HS0, HS1, HT0, Hq0, Hh0, ⟨%W', HW'⟩⟩
    isplitl [HS0 HS1 Hg Hq0 Hh0 HT0]
    · isplitl [HS0 HS1 Hg Hq0 Hh0]
      · isplitl [HS0 HS1]
        · isplitl [HS0]; · iexact HS0
          iexact HS1
        isplitl [Hg]
        · iexact Hg
        isplitl [Hq0]
        · iexact Hq0
        iexact Hh0
      iexact HT0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) (V m c main_arg4)) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [Hq0]; · iexact Hq0
    isplitl [Hh0]; · iexact Hh0
    isplitl [HW]; · iexact HW
    iintro ⟨H0, H1, H2, H3, H4, H5, H6, HS0, HS1, HT0, Hq0, Hh0, ⟨%W', HW'⟩⟩
    isplitl [HS0 HS1 Hg Hq0 Hh0 HT0]
    · isplitl [HS0 HS1 Hg Hq0 Hh0]
      · isplitl [HS0 HS1]
        · isplitl [HS0]; · iexact HS0
          iexact HS1
        isplitl [Hg]
        · iexact Hg
        isplitl [Hq0]
        · iexact Hq0
        iexact Hh0
      iexact HT0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_dma_forget (Q' := _) pcfgs (fun _ => adm m hO) (dats m hO hH) (0 : Fin 1) launch0 osem0 defs₀ Variants.none forgets0 ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := fun _ => .rfl) (hout := fun c => by change iprop(_ ∗ _) ⊢ _; iintro ⟨HD, -⟩; iexact HD)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME at any `F`: the argument arrays end unchanged and every counter ends at zero, under the side conditions of the prefetched
    table (`Gen.Ok`) and of the words the body reads from it (`Gen.Hyps`). Table.lean proves both of every memory, with no precondition. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Dw.Gen

end
-- ==== Proof.Dw.Bounds.lean ====
/- The two words the weight-gradient body loads from its table are counts of token ids, so they lie in 0 .. 11264. With that
   every loop of the body has a meaning, and every copy and load inside it is in range: `hyps` is the side condition `Hyps`
   of the frame, for every launch memory. -/
module

public import proofs.«01_k».proof.Proof.Dw.Runs
public import Idealize.ShloMosaic.Lib.Pipeline.ValueKit
public import Idealize.ShloMosaic.Lib.Claim
public import Idealize.ShloMosaic.Lib.Routing.OpsSearch
public import Idealize.ShloMosaic.Lib.Affine

@[expose] public section

set_option maxRecDepth 16384

noncomputable section

namespace Cert.Dw.Gen

open Idealize.ShloMosaic Idealize.ShloMosaic.TcCoe

variable {F : FTy → Type} [FloatOps F]

/-! ## Floor division by 256 as the body computes it -/

/-- The floor of a word over 256, by the body's own operations. -/
def fdiv (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 256#32 0#32)) (Scalar.extui (Scalar.cmpi .slt 256#32 0#32))))
    (Scalar.cmpi .ne (Scalar.remsi x 256#32) 0#32)) (Scalar.subi (Scalar.divsi x 256#32) 1#32) (Scalar.divsi x 256#32)

theorem fdiv_fin : ∀ n : Fin 11520, fdiv (BitVec.ofNat 32 n.val) = BitVec.ofNat 32 (n.val / 256) := by decide +kernel

theorem fdiv_eq {n : Nat} (h : n < 11520) : fdiv (BitVec.ofNat 32 n) = BitVec.ofNat 32 (n / 256) := fdiv_fin ⟨n, h⟩

theorem lb1 (x y : BitVec 32) : (k0_t1_loop x y).lb = fdiv x := rfl
theorem st1 (x y : BitVec 32) : (k0_t1_loop x y).st = 1#32 := rfl
theorem ub1 (x y : BitVec 32) : (k0_t1_loop x y).ub
    = Scalar.addi (fdiv x) (Scalar.muli (Scalar.divsi (Scalar.subi (fdiv (Scalar.subi (Scalar.addi y 256#32) 1#32)) (fdiv x)) 1#32) 1#32) := rfl
theorem lb2 (x y : BitVec 32) : (k0_t2_loop x y).lb
    = Scalar.addi (fdiv x) (Scalar.muli (Scalar.divsi (Scalar.subi (fdiv (Scalar.subi (Scalar.addi y 256#32) 1#32)) (fdiv x)) 1#32) 1#32) := rfl
theorem ub2 (x y : BitVec 32) : (k0_t2_loop x y).ub
    = Scalar.addi (fdiv x) (Scalar.subi (fdiv (Scalar.subi (Scalar.addi y 256#32) 1#32)) (fdiv x)) := rfl
theorem st2 (x y : BitVec 32) : (k0_t2_loop x y).st = 1#32 := rfl

theorem end_fin : ∀ a b : Fin 45, Scalar.addi (BitVec.ofNat 32 a.val)
      (Scalar.muli (Scalar.divsi (Scalar.subi (BitVec.ofNat 32 b.val) (BitVec.ofNat 32 a.val)) 1#32) 1#32) = BitVec.ofNat 32 b.val
    ∧ Scalar.addi (BitVec.ofNat 32 a.val) (Scalar.subi (BitVec.ofNat 32 b.val) (BitVec.ofNat 32 a.val)) = BitVec.ofNat 32 b.val := by decide +kernel

theorem end_word {n : Nat} (h : n ≤ 11264) : fdiv (Scalar.subi (Scalar.addi (BitVec.ofNat 32 n) 256#32) 1#32) = BitVec.ofNat 32 ((n + 255) / 256) := by
  have e : Scalar.subi (Scalar.addi (BitVec.ofNat 32 n) 256#32) 1#32 = BitVec.ofNat 32 (n + 255) := by
    show BitVec.ofNat 32 n + 256#32 - 1#32 = _
    apply BitVec.eq_of_toNat_eq
    simp only [BitVec.toNat_sub, BitVec.toNat_add, BitVec.toNat_ofNat]
    omega
  rw [e, fdiv_eq (by omega)]

variable {lo hi : Nat} (hlo : lo ≤ 11264) (hhi : hi ≤ 11264)
include hlo in
theorem lb1_eq : (k0_t1_loop (BitVec.ofNat 32 lo) (BitVec.ofNat 32 hi)).lb = BitVec.ofNat 32 (lo / 256) := by
  rw [lb1, fdiv_eq (by omega)]
include hlo hhi in
theorem ub1_eq : (k0_t1_loop (BitVec.ofNat 32 lo) (BitVec.ofNat 32 hi)).ub = BitVec.ofNat 32 ((hi + 255) / 256) := by
  rw [ub1, fdiv_eq (by omega), end_word hhi]
  exact (end_fin ⟨lo / 256, by omega⟩ ⟨(hi + 255) / 256, by omega⟩).1
include hlo hhi in
theorem lb2_eq : (k0_t2_loop (BitVec.ofNat 32 lo) (BitVec.ofNat 32 hi)).lb = BitVec.ofNat 32 ((hi + 255) / 256) := by
  rw [lb2, fdiv_eq (by omega), end_word hhi]
  exact (end_fin ⟨lo / 256, by omega⟩ ⟨(hi + 255) / 256, by omega⟩).1
include hlo hhi in
theorem ub2_eq : (k0_t2_loop (BitVec.ofNat 32 lo) (BitVec.ofNat 32 hi)).ub = BitVec.ofNat 32 ((hi + 255) / 256) := by
  rw [ub2, fdiv_eq (by omega), end_word hhi]
  exact (end_fin ⟨lo / 256, by omega⟩ ⟨(hi + 255) / 256, by omega⟩).2

theorem trips_fin : ∀ a b : Fin 45, Scf.trips (BitVec.ofNat 32 a.val) (BitVec.ofNat 32 b.val) 1#32 = b.val - a.val
    ∧ Scf.OK (BitVec.ofNat 32 a.val) (BitVec.ofNat 32 b.val) 1#32 := by decide +kernel

include hlo hhi in
/-- The loop over the row blocks runs `(hi + 255) / 256 - lo / 256` times. -/
theorem trips1 : (k0_t1_loop (BitVec.ofNat 32 lo) (BitVec.ofNat 32 hi)).trips = (hi + 255) / 256 - lo / 256 := by
  show Scf.trips _ _ _ = _
  rw [lb1_eq hlo, ub1_eq hlo hhi, st1]
  exact (trips_fin ⟨lo / 256, by omega⟩ ⟨(hi + 255) / 256, by omega⟩).1
include hlo hhi in
theorem ok1 : (k0_t1_loop (BitVec.ofNat 32 lo) (BitVec.ofNat 32 hi)).OK := by
  show Scf.OK _ _ _
  rw [lb1_eq hlo, ub1_eq hlo hhi, st1]
  exact (trips_fin ⟨lo / 256, by omega⟩ ⟨(hi + 255) / 256, by omega⟩).2
include hlo hhi in
/-- The loop of the left-over trips never runs. -/
theorem trips2 : (k0_t2_loop (BitVec.ofNat 32 lo) (BitVec.ofNat 32 hi)).trips = 0 := by
  show Scf.trips _ _ _ = _
  rw [lb2_eq hlo hhi, ub2_eq hlo hhi, st2]
  exact (trips_fin ⟨(hi + 255) / 256, by omega⟩ ⟨(hi + 255) / 256, by omega⟩).1.trans (Nat.sub_self _)
include hlo hhi in
theorem ok2 : (k0_t2_loop (BitVec.ofNat 32 lo) (BitVec.ofNat 32 hi)).OK := by
  show Scf.OK _ _ _
  rw [lb2_eq hlo hhi, ub2_eq hlo hhi, st2]
  exact (trips_fin ⟨(hi + 255) / 256, by omega⟩ ⟨(hi + 255) / 256, by omega⟩).2

theorem off3_def (x y : BitVec 32) (k) : k0_off3 x y k = ![(Scalar.muli (Scf.iv (fdiv x) 1#32 k.val) 256#32).toNat, 0] := rfl
theorem off4_def (x y : BitVec 32) (k) : k0_off4 x y k = ![(Scf.iv (fdiv x) 1#32 k.val).toNat, 0] := rfl

theorem iv_eq (a k : Nat) : Scf.iv (BitVec.ofNat 32 a) 1#32 k = BitVec.ofNat 32 (a + k) := by
  unfold Scf.iv
  rw [BitVec.mul_one, BitVec.ofNat_add]

include hlo hhi in
/-- Trip `k` copies the 256 rows from row `256 (lo / 256 + k)`, -/
theorem off3_eq (k : Fin (k0_t1_loop (BitVec.ofNat 32 lo) (BitVec.ofNat 32 hi)).trips) :
    k0_off3 (BitVec.ofNat 32 lo) (BitVec.ofNat 32 hi) k = ![(lo / 256 + k.val) * 256, 0] := by
  have hk := lt_of_lt_of_eq k.isLt (trips1 hlo hhi)
  rw [off3_def, fdiv_eq (by omega), iv_eq]
  have e : (Scalar.muli (BitVec.ofNat 32 (lo / 256 + k.val)) 256#32).toNat = (lo / 256 + k.val) * 256 := by
    show (BitVec.ofNat 32 (lo / 256 + k.val) * 256#32).toNat = _
    rw [BitVec.toNat_mul, BitVec.toNat_ofNat, BitVec.toNat_ofNat]
    omega
  rw [e]
include hlo hhi in
/-- and loads row `lo / 256 + k` of the ids and of their scales. -/
theorem off4_eq (k : Fin (k0_t1_loop (BitVec.ofNat 32 lo) (BitVec.ofNat 32 hi)).trips) :
    k0_off4 (BitVec.ofNat 32 lo) (BitVec.ofNat 32 hi) k = ![lo / 256 + k.val, 0] := by
  have hk := lt_of_lt_of_eq k.isLt (trips1 hlo hhi)
  rw [off4_def, fdiv_eq (by omega), iv_eq, BitVec.toNat_ofNat, Nat.mod_eq_of_lt (by omega)]

include hlo hhi in
/-- The side condition of the body, for two counts. -/
theorem chk1 (i : grid0.Coords) : k0_chk1 i (BitVec.ofNat 32 lo) (BitVec.ofNat 32 hi) := by
  have none (k : Fin (k0_t2_loop (BitVec.ofNat 32 lo) (BitVec.ofNat 32 hi)).trips) : False := by
    have := lt_of_lt_of_eq k.isLt (trips2 hlo hhi)
    omega
  refine ⟨fun _ => ok1 hlo hhi, fun k _ => ?_, fun k _ hinb => ?_, fun k _ => ?_, fun _ => ok2 hlo hhi,
    fun k => (none k).elim, fun k => (none k).elim, fun k => (none k).elim⟩
  · have hk := lt_of_lt_of_eq k.isLt (trips1 hlo hhi)
    rw [off3_eq hlo hhi]
    refine Fin.forall_fin_two.2 ⟨?_, (by decide : 0 + 2560 ≤ 2560)⟩
    show (lo / 256 + k.val) * 256 + 256 ≤ 11264
    omega
  · refine Affine.words_of_packed (Affine.packed_dvd (by decide) ?_ (by decide))
    rw [off3_eq hlo hhi]
    show 4 ∣ (lo / 256 + k.val) * 256
    omega
  · have hk := lt_of_lt_of_eq k.isLt (trips1 hlo hhi)
    rw [off4_eq hlo hhi]
    refine Fin.forall_fin_two.2 ⟨?_, (by decide : 0 + 256 ≤ 256)⟩
    show (lo / 256 + k.val) + 1 ≤ 44
    omega

/-! ## The table -/

variable (m : (ℓ : Loc nD τ sig) → Buf (Elt F) ℓ)

/-- How many token ids lie, signed, below `1280 q`: the id range's end the host computes. -/
def cnt (c : Dev nD) (q : Nat) : Nat :=
  Nat.count (fun t => ∃ h : t < 11264, (m ((c : Thread nD τ).loc main_arg6) (ix1 (⟨t, h⟩ : Fin 11264)) : BitVec 32).toInt < 1280 * q) 11264

end Cert.Dw.Gen
-- ==== Proof.Dw.Table.lean ====
/- The table of id range ends: cell `q` holds how many token ids lie below `1280 q`. -/
module

public import proofs.«01_k».proof.Proof.Dw.Bounds

@[expose] public section

set_option maxRecDepth 16384

noncomputable section

namespace Cert.Dw.Gen

open Idealize.ShloMosaic Idealize.ShloMosaic.TcCoe

variable {F : FTy → Type} [FloatOps F]
variable (m : (ℓ : Loc nD τ sig) → Buf (Elt F) ℓ)

/-- Cell `q` of the table counts the ids below `1280 q`. -/
theorem table (c : Dev nD) (q : Fin 26) : V m c main_v13 (ix1 q) = BitVec.ofNat 32 (cnt m c q.val) := by
  entry_read
  refine Routing.reduce_count (n := 26) (m := 11264) (by decide) _ _ _ _ q _ fun t => ?_
  rw [show (ValueIdx.ix2 q t : S26x11264.Idx) = ix2 q t from by funext a; fin_cases a <;> rfl]
  pointwise
  have e : (IntOp.muli (BitVec.ofNat 32 q.val) 1280#32 : BitVec 32).toInt = 1280 * q.val := by
    have key : ∀ q : Fin 26, (IntOp.muli (BitVec.ofNat 32 q.val) 1280#32 : BitVec 32).toInt = 1280 * q.val := by decide +kernel
    exact key q
  rw [WordCmp.cmpi_slt_eq, e]
  show BitVec.ofBool (decide ((m ((c : Thread nD τ).loc main_arg6) (ix1 t) : BitVec 32).toInt < 1280 * q.val)) = 1#1 ↔ _
  by_cases h : (m ((c : Thread nD τ).loc main_arg6) (ix1 t) : BitVec 32).toInt < 1280 * q.val
  · simp [h]
  · simp [h]

/-- A load of one cell of the table reads that cell. -/
theorem word_read (f : TbBuf0 (F := F) (0 : Dev nD) tbM0_0) (off : Fin 1 → Nat) (h : ∀ a, off a + S1.size a ≤ S26.size a) (q : Fin 26) (hq : off = ![q.val]) (y) :
    tbM0_0.view.readAt (Elt F) (Rect.unit (s := S26) off S1.size h).toLoadRect f y = f (ix1 q) := by
  subst hq
  rw [View.readAt_apply]
  show f _ = f _
  refine congrArg f (funext fun a => ?_)
  have e : ∀ a : Fin 1, (Rect.unit (s := S26) ![q.val] S1.size h).idx y a = ix1 q a := by
    intro a
    obtain rfl : a = 0 := Subsingleton.elim _ _
    refine Fin.ext ?_
    have : (y 0).val = 0 := by have := (y 0).isLt; change (y 0).val < 1 at this; omega
    show q.val + 1 * (y 0).val = q.val
    omega
  exact e a

theorem cnt_le (c : Dev nD) (q : Nat) : cnt m c q ≤ 11264 := Nat.count_le _

theorem word1 (i : grid0.Coords) (hc : cond0_0 i) (y) :
    tbM0_0.view.readAt (Elt F) (Rect.unit (s := S26) (k0_off1 i) S1.size (k0_off1_inb i hc)).toLoadRect (tbl m 0) y = BitVec.ofNat 32 (cnt m 0 (i 0).val) := by
  have hi : (i 0).val < 25 := (i 0).isLt
  rw [word_read (tbl m 0) _ _ ⟨(i 0).val, by omega⟩ (k0_off1_eq i) y]
  exact table m 0 ⟨(i 0).val, by omega⟩

theorem word2 (i : grid0.Coords) (hc : cond0_0 i) (y) :
    tbM0_0.view.readAt (Elt F) (Rect.unit (s := S26) (k0_off2 i) S1.size (k0_off2_inb i hc)).toLoadRect (tbl m 0) y = BitVec.ofNat 32 (cnt m 0 ((i 0).val + 1)) := by
  have hi : (i 0).val < 25 := (i 0).isLt
  rw [word_read (tbl m 0) _ _ ⟨(i 0).val + 1, by omega⟩ (k0_off2_eq i) y]
  exact table m 0 ⟨(i 0).val + 1, by omega⟩

theorem ok : Ok m := trivial

/-- What the body assumes of the two words it loads holds of every launch memory. -/
theorem hyps : Hyps m (ok m) := Hyps.of fun c t hc => by
  rw [word1 m _ hc, word2 m _ hc]
  exact chk1 (cnt_le m 0 _) (cnt_le m 0 _) _

end Cert.Dw.Gen
-- ==== Proof.DwIdeal.Points.lean ====
/- The schedule of the weight-gradient call on its static grid of 25 x 11 points: per window, at which points the pipeline
   fetches it and at which it writes it back, the staging memrefs at a point, and the body as the pipeline calls it there.
   Follows the generated schedule of a kernel of this form. -/
module

public import proofs.«01_k».proof.Proof.Gen.DwIdeal
public import Idealize.ShloMosaic.Lib.Pipeline.Kit

@[expose] public section

noncomputable section

namespace Cert.DwIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%3)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%14)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%15)) is fetched at the first point only, at any contents of the tables (its index map reads none). -/
theorem fetch0_4 (a : (pcfg0 (F := F)).Adm) : ∀ t : Fin (cfg0 a).N, ((cfg0 a).win 4).fetch t = true ↔ t.val % 275 = 0 :=
  (fun t => Pipeline.Window.fetchOf_const cc0_transform_4 (fun _ _ => rfl) (n := 275) (by decide) t : ∀ t : Fin grid0.N, Pipeline.Window.fetchOf grid0 false cc0_transform_4 t = true ↔ t.val % 275 = 0)
/-- Window 5 (operand 6 (%16)) is fetched at the first point only, at any contents of the tables (its index map reads none). -/
theorem fetch0_5 (a : (pcfg0 (F := F)).Adm) : ∀ t : Fin (cfg0 a).N, ((cfg0 a).win 5).fetch t = true ↔ t.val % 275 = 0 :=
  (fun t => Pipeline.Window.fetchOf_const cc0_transform_5 (fun _ _ => rfl) (n := 275) (by decide) t : ∀ t : Fin grid0.N, Pipeline.Window.fetchOf grid0 false cc0_transform_5 t = true ↔ t.val % 275 = 0)
/-- Window 6 (result 0 (%17)) is written back at the points ≡ 10 (mod 11), at any contents of the tables (its index map reads none). -/
theorem flush0_6 (a : (pcfg0 (F := F)).Adm) : ∀ t : Fin (cfg0 a).N, ((cfg0 a).win 6).flush t = true ↔ t.val % 11 = 10 :=
  (fun t => Pipeline.Window.flushOf_reads cc0_transform_7 reads0_6 hreads0_6 0 (by decide) (by decide) (Pipeline.Window.sep_of_coord cc0_transform_7 0 0 (fun _ => rfl) (by decide)) (P := 11) (m := 10) (by decide) rfl t : ∀ t : Fin grid0.N, Pipeline.Window.flushOf grid0 true cc0_transform_7 t = true ↔ t.val % 11 = 10)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dw (grid0.coords t) (Memref.whole main_v13) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole main_arg4) (Memref.isWhole_whole _) (spec0_6.stage ((cfg0 a).slots t 6)) (hstage0_6 (((cfg0 a).slots t 6).cast nbuf0_6)) (Memref.whole cc0_scratch0) (Memref.isWhole_whole _) (Memref.whole cc0_scratch1) (Memref.isWhole_whole _) cc0_scratch2

end Cert.DwIdeal.Gen

end
-- ==== Proof.DwIdeal.Runs.lean ====
/- What the two runs of the weight-gradient body share: the host lines before the region, the prefetched table, the windows'
   blocks, the branch condition, the staging memrefs, and the side condition the body assumes of the two words it loads from
   the table (`Hyps`). Follows the generated kit of a kernel of this form; here the table is read at the grid's own
   coordinate, cells `i` and `i + 1`. -/
module

public import proofs.«01_k».proof.Proof.Gen.DwIdeal.Launch
public import proofs.«01_k».proof.Proof.Gen.DwIdeal.Skeleton
public import proofs.«01_k».proof.Proof.Gen.DwIdeal.Loops
public import proofs.«01_k».proof.Proof.DwIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S26 .i32 := Memref.whole main_v13
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DwIdeal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 11) — by arithmetic of the point. -/
theorem hcond0_0 : ∀ t : Fin grid0.N, cond0_0 (grid0.coords t) ↔ t.val % 11 = 0 :=
  (fun t => by
    have ht : t.val < 275 := Nat.lt_of_lt_of_eq t.isLt N_0
    have e0 : (grid0.coords t 0).val = t.val / 11 % 25 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-! ## The kernel body on any staging memrefs: a subtype the run finds -/

/-- One staging buffer of output window 6, through which its contents are stated (`View.read_writes_of_cover`: the
    choice does not matter). -/
abbrev VO0_6 : View sig .tc .vmem S1280x2560 .f32 := (Memref.whole cc0_stg6_0 : Memref sig .tc .vmem S1280x2560 .f32).view
/-- Each window's current staging memref at point `t`, spelled as the pipeline passes it (`bodyAt0`), and its wholeness. -/
abbrev ms0_0 (hO : Ok m) (t : Fin (cfgM m hO).N) : Memref sig .tc .vmem S1024x1280 .fp8e5m2 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x10x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x2560 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S44x256 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S44x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1280x2560 .f32 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (hO : Ok m) (c : Dev nD) (t : Fin (cfgM m hO).N) : Prop :=
  (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos))))
variable {m} in
theorem Hyps.c0 {hO : Ok m} (hH : Hyps m hO) (c : Dev nD) (t : Fin (cfgM m hO).N) :
    (∀ hc : cond0_0 (grid0.coords t), k0_chk1 (grid0.coords t) (tbM0_0.view.readAt (Elt F) (Rect.unit (s := S26) (k0_off1 (grid0.coords t)) S1.size (k0_off1_inb (grid0.coords t) hc)).toLoadRect (tbl m 0) (Shape.Idx.first (numel1_S1.symm ▸ Nat.one_pos))) (tbM0_0.view.readAt (Elt F) (Rect.unit (s := S26) (k0_off2 (grid0.coords t)) S1.size (k0_off2_inb (grid0.coords t) hc)).toLoadRect (tbl m 0) (Shape.Idx.first (numel1_S1.symm ▸ Nat.one_pos)))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1280x1024 .bf16 := Memref.whole cc0_scratch0
abbrev scM0_1 : Memref sig .tc .vmem S256x2560 .fp8e5m2 := Memref.whole cc0_scratch1
/-- The operands left in HBM that the body copies into scratch itself, whole. -/
abbrev hbM0_0 : Memref sig .tc .hbm S11264x2560 .fp8e5m2 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 12] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 12) 0) := by
  rw [Pipeline.ownSems0_eq_of_list c osem0 [0] (by decide) (by decide)]; rfl
/-- The HBM operands the body moves, as references: unscoped, no window's array, no table (`Pipeline.restRefsP`). -/
def H0 : Finset (Ref sig .tc) := {main_arg4}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg4)) := by
  rw [BI.bigSep_eq_bigSepL_of_eq [main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 12) 0) ∗ iprop(hbPt0 c hbM0_0 (V m c main_arg4))) := by
  rw [Pipeline.ΦD_eq, scopedRest0_eq, ownSems00_eq, hbmPts0_eq]; simp only [scM0_0, scM0_1, owns_whole]; try rfl

end Cert.DwIdeal.Gen

end
-- ==== Proof.DwIdeal.RunA.lean ====
/- The weight-gradient body at a point that starts a block of the vocabulary (`j = 0`): it zeroes the block, adds the
   embedding rows trip by trip, then adds its token block's product. -/
module

public import proofs.«01_k».proof.Proof.DwIdeal.Runs

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 11, … 264: 25 of 275), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (fh0 : HbBuf0 (F := F) c hbM0_0) (k0_hw1 : k0_chk1 i (tbM0_0.view.readAt (Elt F) (Rect.unit (s := S26) (k0_off1 i) S1.size (k0_off1_inb i hc0)).toLoadRect xt0 (Shape.Idx.first (numel1_S1.symm ▸ Nat.one_pos))) (tbM0_0.view.readAt (Elt F) (Rect.unit (s := S26) (k0_off2 i) S1.size (k0_off2_inb i hc0)).toLoadRect xt0 (Shape.Idx.first (numel1_S1.symm ▸ Nat.one_pos)))) :
    Σ' (L6 : List (View.Piece (Elt F) S1280x2560 .f32)), { LT0 : List (View.Piece (Elt F) S1280x1024 .bf16) //
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f LT0) ∗ (∃ d, owns (c : Thread nD τ) arg12 fullShare d) ∗ tbPt0 c tbM0_0 xt0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_dw i tbM0_0 htbM0_0 arg3 harg3 arg4 harg4 arg5 harg5 arg6 harg6 arg7 harg7 arg8 harg8 (Memref.whole main_arg4) (Memref.isWhole_whole _) arg10 harg10 arg11 harg11 arg12 harg12 cc0_scratch2) K } := by
  refine ⟨?_, ?_, fun W K => ?run⟩
  case run =>
    simp only [cc0_dw_eq_skeleton]; unfold cc0_dw_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, Hq0, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.DwIdeal.Gen

end
-- ==== Proof.DwIdeal.RunB.lean ====
/- The weight-gradient body at a point inside a block of the vocabulary (`j > 0`): it adds its token block's product. -/
module

public import proofs.«01_k».proof.Proof.DwIdeal.RunA

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 274: 250 of 275), WITH the
    proof that on whole staging memrefs — the inputs' at their contents, the outputs it reads before covering (6) at their running contents `xo·`, the other outputs' at
    anything, the scratch buffers at anything, the HBM operands it copies whole at their launch contents `fh·`, its DMA cells at zero and the core's `owes`, the body runs to the continuation holding the inputs' as they were,
    a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : ¬cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (xo6 : Vec F S1280x2560 .f32) (fh0 : HbBuf0 (F := F) c hbM0_0) :
    Σ' (L6 : List (View.Piece (Elt F) S1280x2560 .f32)), { LT0 : List (View.Piece (Elt F) S1280x1024 .bf16) //
      ∀ (W : Waits sig Unit) (K : PUnit → sProp (MT nD τ sig Unit (Elt F) ℕ (Pipeline.UD sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xo6 ∗ (∃ d, owns (c : Thread nD τ) arg11 fullShare d) ∗ (∃ d, owns (c : Thread nD τ) arg12 fullShare d) ∗ tbPt0 c tbM0_0 xt0 ∗ semVal ((c : Thread nD τ), SemLoc.dma 12) 0 ∗ hbPt0 c hbM0_0 fh0 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg10.view.loc (c : Thread nD τ) ↦[arg10.view.set]{fullShare} arg10.view.writes (Elt F) f L6) ∗ (∃ f, arg11.view.loc (c : Thread nD τ) ↦[arg11.view.set]{fullShare} arg11.view.writes (Elt F) f LT0) ∗ (∃ d, owns (c : Thread nD τ) arg12 fullShare d) ∗ tbPt0 c tbM0_0 xt0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_dw i tbM0_0 htbM0_0 arg3 harg3 arg4 harg4 arg5 harg5 arg6 harg6 arg7 harg7 arg8 harg8 (Memref.whole main_arg4) (Memref.isWhole_whole _) arg10 harg10 arg11 harg11 arg12 harg12 cc0_scratch2) K } := by
  refine ⟨?_, ?_, fun W K => ?run⟩
  case run =>
    simp only [cc0_dw_eq_skeleton]; unfold cc0_dw_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, Hq0, Hh0, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]
    · iexists _, _; isplitr; swap; · iexact HS1
      ipureintro; rfl
    isplitl [HT0]; · iexact HT0
    isplitl [Hq0]; · iexact Hq0
    isplitl [Hh0]; · iexact Hh0
    iexists _; iexact HW

end Cert.DwIdeal.Gen

end
-- ==== Proof.DwIdeal.Frame.lean ====
/- The weight-gradient call from its two runs: what the output's buffer holds after each point (`outsAt0`), the pipeline's
   proof data, the body obligation, the launch, and the frame, all under the table's two side conditions. -/
module

public import proofs.«01_k».proof.Proof.DwIdeal.RunB
public import Idealize.ShloMosaic.Lib.Claim

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 6 include a counted loop's stores, a segment of the list whose length and places are not numerals, which no evaluation decides; one explicit piece is a literal store of the WHOLE block (found by walking the list as the run left it, that piece checked by the kernel's evaluation of it alone: Lib/Ring.lean `sl_whole_mem`), so they cover it whatever the others are. -/
theorem cover0_A_6 (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (fh0 : HbBuf0 (F := F) c hbM0_0) (k0_hw1 : k0_chk1 i (tbM0_0.view.readAt (Elt F) (Rect.unit (s := S26) (k0_off1 i) S1.size (k0_off1_inb i hc0)).toLoadRect xt0 (Shape.Idx.first (numel1_S1.symm ▸ Nat.one_pos))) (tbM0_0.view.readAt (Elt F) (Rect.unit (s := S26) (k0_off2 i) S1.size (k0_off2_inb i hc0)).toLoadRect xt0 (Shape.Idx.first (numel1_S1.symm ▸ Nat.one_pos)))) (y : S1280x2560.Idx) :
    ∃ pc ∈ (kernelRun0_A c i arg3 harg3 arg4 harg4 arg5 harg5 arg6 harg6 arg7 harg7 arg8 harg8 arg10 harg10 arg11 harg11 arg12 harg12 hc0 x0 x1 x2 x3 x4 x5 xt0 fh0 k0_hw1).1, y ∈ pc.1.set :=
  View.cover_of_wholeMem (kernelRun0_A c i arg3 harg3 arg4 harg4 arg5 harg5 arg6 harg6 arg7 harg7 arg8 harg8 arg10 harg10 arg11 harg11 arg12 harg12 hc0 x0 x1 x2 x3 x4 x5 xt0 fh0 k0_hw1).1 (by sl_whole_mem) y

/-- What case A leaves in output 6's staging buffer: its pieces read back over junk. -/
def out0_A_6 (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (fh0 : HbBuf0 (F := F) c hbM0_0) (k0_hw1 : k0_chk1 i (tbM0_0.view.readAt (Elt F) (Rect.unit (s := S26) (k0_off1 i) S1.size (k0_off1_inb i hc0)).toLoadRect xt0 (Shape.Idx.first (numel1_S1.symm ▸ Nat.one_pos))) (tbM0_0.view.readAt (Elt F) (Rect.unit (s := S26) (k0_off2 i) S1.size (k0_off2_inb i hc0)).toLoadRect xt0 (Shape.Idx.first (numel1_S1.symm ▸ Nat.one_pos)))) : Vec F S1280x2560 .f32 :=
  VO0_6.read (Elt F) (VO0_6.writes (Elt F) VO0_6.junk (kernelRun0_A c i arg3 harg3 arg4 harg4 arg5 harg5 arg6 harg6 arg7 harg7 arg8 harg8 arg10 harg10 arg11 harg11 arg12 harg12 hc0 x0 x1 x2 x3 x4 x5 xt0 fh0 k0_hw1).1)

/-- Case B's pieces for output 6 tile its block (1 store of `S1280x2560`, checked by the kernel's evaluation: Lib/Ring.lean `Piece.tiledL`, linear in the pieces, through a loop's `@[irreducible]` trip theorem too), so they cover it. -/
theorem cover0_B_6 (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : ¬cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (xo6 : Vec F S1280x2560 .f32) (fh0 : HbBuf0 (F := F) c hbM0_0) (y : S1280x2560.Idx) :
    ∃ pc ∈ (kernelRun0_B c i arg3 harg3 arg4 harg4 arg5 harg5 arg6 harg6 arg7 harg7 arg8 harg8 arg10 harg10 arg11 harg11 arg12 harg12 hc0 x0 x1 x2 x3 x4 x5 xt0 xo6 fh0).1, y ∈ pc.1.set :=
  View.cover_of_tiledL (kernelRun0_B c i arg3 harg3 arg4 harg4 arg5 harg5 arg6 harg6 arg7 harg7 arg8 harg8 arg10 harg10 arg11 harg11 arg12 harg12 hc0 x0 x1 x2 x3 x4 x5 xt0 xo6 fh0).1 S1280x2560.size (by sl_kernel_rfl) y

/-- What case B leaves in output 6's staging buffer: its pieces read back over junk. -/
def out0_B_6 (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : ¬cond0_0 i)
    (x0 : Vec F S1024x1280 .fp8e5m2) (x1 : Vec F S1x10x1024 .f32) (x2 : Vec F S1x1024 .f32) (x3 : Vec F S1024x2560 .fp8e4m3) (x4 : Vec F S44x256 .i32) (x5 : Vec F S44x256 .f32) (xt0 : TbBuf0 (F := F) c tbM0_0) (xo6 : Vec F S1280x2560 .f32) (fh0 : HbBuf0 (F := F) c hbM0_0) : Vec F S1280x2560 .f32 :=
  VO0_6.read (Elt F) (VO0_6.writes (Elt F) VO0_6.junk (kernelRun0_B c i arg3 harg3 arg4 harg4 arg5 harg5 arg6 harg6 arg7 harg7 arg8 harg8 arg10 harg10 arg11 harg11 arg12 harg12 hc0 x0 x1 x2 x3 x4 x5 xt0 xo6 fh0).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S1280x2560 .f32
  | 0, hn => out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (V m c main_arg4) ((Hyps.c0 hH c ⟨0, hn⟩) ((hcond0_0 ⟨0, hn⟩).mpr (Nat.zero_mod _)))
  | n + 1, hn =>
    if h0 : (n + 1) % 11 = 0 then
      out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (V m c main_arg4) ((Hyps.c0 hH c ⟨n + 1, hn⟩) ((hcond0_0 ⟨n + 1, hn⟩).mpr h0))
    else
      out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO hH c n (Nat.lt_of_succ_lt hn)) (V m c main_arg4)

/-- `outsAt0` at a point of case A: that case's contents. -/
theorem outsAt0_A (hO : Ok m) (hH : Hyps m hO) (c : Dev nD) (t : Fin (cfgM m hO).N) (h0 : t.val % 11 = 0) :
    outsAt0 m hO hH c t.val t.isLt = out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0) (V m c main_arg4) ((Hyps.c0 hH c t) ((hcond0_0 t).mpr h0)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 11 = 0) :
    outsAt0 m hO hH c t.val t.isLt = out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO hH c (t.val - 1) (Nat.lt_of_le_of_lt (Nat.sub_le _ _) t.isLt)) (V m c main_arg4) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents; and the tables' halves, `ΦT`); nothing owed; full shares. -/
def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t.val t.isLt)
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = (outsAt0 m hO hH c t.val t.isLt) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
/-- At a point of case B output 6's current staging buffer holds what the body left at the point before: the point is
    not the first, the buffer was not written back between (`flush0_6`), the window is live and uncut (Lib/Pipeline/Frame.lean
    `Dat.before_out_kept`). -/
theorem before0_6_B (hO : Ok m) (hH : Hyps m hO) (c : Dev nD) (t : Fin (cfgM m hO).N) (h0 : ¬t.val % 11 = 0) (d) :
    (dats m hO hH 0 c).before 6 t d = (outsAt0 m hO hH c (t.val - 1) (Nat.lt_of_le_of_lt (Nat.sub_le _ _) t.isLt)) := by
  have hN : t.val < 275 := lt_of_lt_of_eq t.isLt (show (cfgM m hO).N = 275 from N_0)
  rw [Dat.before_out_kept _ 6 rfl t (by omega) (Bool.eq_false_iff.mpr fun h => by have := (flush0_6 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp (MT nD τ sig Unit (Elt F) ℕ (Pipeline.UD sig nD τ) ℕ) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Hyps m hO) (c : Dev nD) (t : Fin (cfgM m hO).N) : sProp (MT nD τ sig Unit (Elt F) ℕ (Pipeline.UD sig nD τ) ℕ) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 1600000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    after0_0, after0_1, after0_2, after0_3, after0_4, after0_5, after0_6]
  rw [show (dats m hO hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO hH 0 c).owed t.castSucc = 0 from rfl, show (dats m hO hH 0 c).owed t.succ = 0 from rfl]
  have hN : t.val < 275 := lt_of_lt_of_eq t.isLt (show (cfgM m hO).N = 275 from N_0)
  by_cases h0 : t.val % 11 = 0
  · rw [outsAt0_A m hO hH c t h0]
    unfold out0_A_6
    iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) (V m c main_arg4) ((Hyps.c0 hH c t) ((hcond0_0 t).mpr h0))).2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [Hq0]; · iexact Hq0
    isplitl [Hh0]; · iexact Hh0
    isplitl [HW]; · iexact HW
    iintro ⟨H0, H1, H2, H3, H4, H5, ⟨%e6, H6⟩, ⟨%fT0, HS0⟩, HS1, HT0, Hq0, Hh0, ⟨%W', HW'⟩⟩
    isplitl [HS0 HS1 Hg Hq0 Hh0 HT0]
    · isplitl [HS0 HS1 Hg Hq0 Hh0]
      · isplitl [HS0 HS1]
        · isplitl [HS0]
          · iexists _; unfold owns; iexists _; isplitr
            swap; · iexact HS0
            ipureintro; rfl
          iexact HS1
        isplitl [Hg]
        · iexact Hg
        isplitl [Hq0]
        · iexact Hq0
        iexact Hh0
      iexact HT0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _ _ _ _ _ _)
  · rw [outsAt0_B m hO hH c t h0]
    simp only [before0_6_B m hO hH c t h0]
    unfold out0_B_6
    iintro ⟨⟨⟨⟨HS0, HS1⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _ (V m c main_arg4)).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HT0]; · iexact HT0
    isplitl [Hq0]; · iexact Hq0
    isplitl [Hh0]; · iexact Hh0
    isplitl [HW]; · iexact HW
    iintro ⟨H0, H1, H2, H3, H4, H5, ⟨%e6, H6⟩, ⟨%fT0, HS0⟩, HS1, HT0, Hq0, Hh0, ⟨%W', HW'⟩⟩
    isplitl [HS0 HS1 Hg Hq0 Hh0 HT0]
    · isplitl [HS0 HS1 Hg Hq0 Hh0]
      · isplitl [HS0 HS1]
        · isplitl [HS0]
          · iexists _; unfold owns; iexists _; isplitr
            swap; · iexact HS0
            ipureintro; rfl
          iexact HS1
        isplitl [Hg]
        · iexact Hg
        isplitl [Hq0]
        · iexact Hq0
        iexact Hh0
      iexact HT0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_dma (Q' := _) pcfgs (fun _ => adm m hO) (dats m hO hH) (0 : Fin 1) launch0 osem0 defs₀ Variants.none ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := fun _ => .rfl) (hout := fun c => by change iprop(_ ∗ _) ⊢ _; iintro ⟨HD, -⟩; iexact HD)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO hH) (A_eq m hO hH) (run_main m ρ hO hH)

/-- THE FRAME at any `F`: the argument arrays end unchanged and every counter ends at zero, under the side conditions of the prefetched
    table (`Gen.Ok`) and of the words the body reads from it (`Gen.Hyps`). Table.lean proves both of every memory, with no precondition. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.DwIdeal.Gen

end
-- ==== Proof.DwIdeal.Bounds.lean ====
/- The two words the weight-gradient body loads from its table are counts of token ids, so they lie in 0 .. 11264. With that
   every loop of the body has a meaning, and every copy and load inside it is in range: `hyps` is the side condition `Hyps`
   of the frame, for every launch memory. -/
module

public import proofs.«01_k».proof.Proof.DwIdeal.Runs
public import Idealize.ShloMosaic.Lib.Pipeline.ValueKit
public import Idealize.ShloMosaic.Lib.Claim
public import Idealize.ShloMosaic.Lib.Routing.OpsSearch
public import Idealize.ShloMosaic.Lib.Affine

@[expose] public section

set_option maxRecDepth 16384

noncomputable section

namespace Cert.DwIdeal.Gen

open Idealize.ShloMosaic Idealize.ShloMosaic.TcCoe

variable {F : FTy → Type} [FloatOps F]

/-! ## Floor division by 256 as the body computes it -/

/-- The floor of a word over 256, by the body's own operations. -/
def fdiv (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 256#32 0#32)) (Scalar.extui (Scalar.cmpi .slt 256#32 0#32))))
    (Scalar.cmpi .ne (Scalar.remsi x 256#32) 0#32)) (Scalar.subi (Scalar.divsi x 256#32) 1#32) (Scalar.divsi x 256#32)

theorem fdiv_fin : ∀ n : Fin 11520, fdiv (BitVec.ofNat 32 n.val) = BitVec.ofNat 32 (n.val / 256) := by decide +kernel

theorem fdiv_eq {n : Nat} (h : n < 11520) : fdiv (BitVec.ofNat 32 n) = BitVec.ofNat 32 (n / 256) := fdiv_fin ⟨n, h⟩

theorem lb1 (x y : BitVec 32) : (k0_t1_loop x y).lb = fdiv x := rfl
theorem st1 (x y : BitVec 32) : (k0_t1_loop x y).st = 1#32 := rfl
theorem ub1 (x y : BitVec 32) : (k0_t1_loop x y).ub
    = Scalar.addi (fdiv x) (Scalar.muli (Scalar.divsi (Scalar.subi (fdiv (Scalar.subi (Scalar.addi y 256#32) 1#32)) (fdiv x)) 1#32) 1#32) := rfl
theorem lb2 (x y : BitVec 32) : (k0_t2_loop x y).lb
    = Scalar.addi (fdiv x) (Scalar.muli (Scalar.divsi (Scalar.subi (fdiv (Scalar.subi (Scalar.addi y 256#32) 1#32)) (fdiv x)) 1#32) 1#32) := rfl
theorem ub2 (x y : BitVec 32) : (k0_t2_loop x y).ub
    = Scalar.addi (fdiv x) (Scalar.subi (fdiv (Scalar.subi (Scalar.addi y 256#32) 1#32)) (fdiv x)) := rfl
theorem st2 (x y : BitVec 32) : (k0_t2_loop x y).st = 1#32 := rfl

theorem end_fin : ∀ a b : Fin 45, Scalar.addi (BitVec.ofNat 32 a.val)
      (Scalar.muli (Scalar.divsi (Scalar.subi (BitVec.ofNat 32 b.val) (BitVec.ofNat 32 a.val)) 1#32) 1#32) = BitVec.ofNat 32 b.val
    ∧ Scalar.addi (BitVec.ofNat 32 a.val) (Scalar.subi (BitVec.ofNat 32 b.val) (BitVec.ofNat 32 a.val)) = BitVec.ofNat 32 b.val := by decide +kernel

theorem end_word {n : Nat} (h : n ≤ 11264) : fdiv (Scalar.subi (Scalar.addi (BitVec.ofNat 32 n) 256#32) 1#32) = BitVec.ofNat 32 ((n + 255) / 256) := by
  have e : Scalar.subi (Scalar.addi (BitVec.ofNat 32 n) 256#32) 1#32 = BitVec.ofNat 32 (n + 255) := by
    show BitVec.ofNat 32 n + 256#32 - 1#32 = _
    apply BitVec.eq_of_toNat_eq
    simp only [BitVec.toNat_sub, BitVec.toNat_add, BitVec.toNat_ofNat]
    omega
  rw [e, fdiv_eq (by omega)]

variable {lo hi : Nat} (hlo : lo ≤ 11264) (hhi : hi ≤ 11264)
include hlo in
theorem lb1_eq : (k0_t1_loop (BitVec.ofNat 32 lo) (BitVec.ofNat 32 hi)).lb = BitVec.ofNat 32 (lo / 256) := by
  rw [lb1, fdiv_eq (by omega)]
include hlo hhi in
theorem ub1_eq : (k0_t1_loop (BitVec.ofNat 32 lo) (BitVec.ofNat 32 hi)).ub = BitVec.ofNat 32 ((hi + 255) / 256) := by
  rw [ub1, fdiv_eq (by omega), end_word hhi]
  exact (end_fin ⟨lo / 256, by omega⟩ ⟨(hi + 255) / 256, by omega⟩).1
include hlo hhi in
theorem lb2_eq : (k0_t2_loop (BitVec.ofNat 32 lo) (BitVec.ofNat 32 hi)).lb = BitVec.ofNat 32 ((hi + 255) / 256) := by
  rw [lb2, fdiv_eq (by omega), end_word hhi]
  exact (end_fin ⟨lo / 256, by omega⟩ ⟨(hi + 255) / 256, by omega⟩).1
include hlo hhi in
theorem ub2_eq : (k0_t2_loop (BitVec.ofNat 32 lo) (BitVec.ofNat 32 hi)).ub = BitVec.ofNat 32 ((hi + 255) / 256) := by
  rw [ub2, fdiv_eq (by omega), end_word hhi]
  exact (end_fin ⟨lo / 256, by omega⟩ ⟨(hi + 255) / 256, by omega⟩).2

theorem trips_fin : ∀ a b : Fin 45, Scf.trips (BitVec.ofNat 32 a.val) (BitVec.ofNat 32 b.val) 1#32 = b.val - a.val
    ∧ Scf.OK (BitVec.ofNat 32 a.val) (BitVec.ofNat 32 b.val) 1#32 := by decide +kernel

include hlo hhi in
/-- The loop over the row blocks runs `(hi + 255) / 256 - lo / 256` times. -/
theorem trips1 : (k0_t1_loop (BitVec.ofNat 32 lo) (BitVec.ofNat 32 hi)).trips = (hi + 255) / 256 - lo / 256 := by
  show Scf.trips _ _ _ = _
  rw [lb1_eq hlo, ub1_eq hlo hhi, st1]
  exact (trips_fin ⟨lo / 256, by omega⟩ ⟨(hi + 255) / 256, by omega⟩).1
include hlo hhi in
theorem ok1 : (k0_t1_loop (BitVec.ofNat 32 lo) (BitVec.ofNat 32 hi)).OK := by
  show Scf.OK _ _ _
  rw [lb1_eq hlo, ub1_eq hlo hhi, st1]
  exact (trips_fin ⟨lo / 256, by omega⟩ ⟨(hi + 255) / 256, by omega⟩).2
include hlo hhi in
/-- The loop of the left-over trips never runs. -/
theorem trips2 : (k0_t2_loop (BitVec.ofNat 32 lo) (BitVec.ofNat 32 hi)).trips = 0 := by
  show Scf.trips _ _ _ = _
  rw [lb2_eq hlo hhi, ub2_eq hlo hhi, st2]
  exact (trips_fin ⟨(hi + 255) / 256, by omega⟩ ⟨(hi + 255) / 256, by omega⟩).1.trans (Nat.sub_self _)
include hlo hhi in
theorem ok2 : (k0_t2_loop (BitVec.ofNat 32 lo) (BitVec.ofNat 32 hi)).OK := by
  show Scf.OK _ _ _
  rw [lb2_eq hlo hhi, ub2_eq hlo hhi, st2]
  exact (trips_fin ⟨(hi + 255) / 256, by omega⟩ ⟨(hi + 255) / 256, by omega⟩).2

theorem off3_def (x y : BitVec 32) (k) : k0_off3 x y k = ![(Scalar.muli (Scf.iv (fdiv x) 1#32 k.val) 256#32).toNat, 0] := rfl
theorem off4_def (x y : BitVec 32) (k) : k0_off4 x y k = ![(Scf.iv (fdiv x) 1#32 k.val).toNat, 0] := rfl

theorem iv_eq (a k : Nat) : Scf.iv (BitVec.ofNat 32 a) 1#32 k = BitVec.ofNat 32 (a + k) := by
  unfold Scf.iv
  rw [BitVec.mul_one, BitVec.ofNat_add]

include hlo hhi in
/-- Trip `k` copies the 256 rows from row `256 (lo / 256 + k)`, -/
theorem off3_eq (k : Fin (k0_t1_loop (BitVec.ofNat 32 lo) (BitVec.ofNat 32 hi)).trips) :
    k0_off3 (BitVec.ofNat 32 lo) (BitVec.ofNat 32 hi) k = ![(lo / 256 + k.val) * 256, 0] := by
  have hk := lt_of_lt_of_eq k.isLt (trips1 hlo hhi)
  rw [off3_def, fdiv_eq (by omega), iv_eq]
  have e : (Scalar.muli (BitVec.ofNat 32 (lo / 256 + k.val)) 256#32).toNat = (lo / 256 + k.val) * 256 := by
    show (BitVec.ofNat 32 (lo / 256 + k.val) * 256#32).toNat = _
    rw [BitVec.toNat_mul, BitVec.toNat_ofNat, BitVec.toNat_ofNat]
    omega
  rw [e]
include hlo hhi in
/-- and loads row `lo / 256 + k` of the ids and of their scales. -/
theorem off4_eq (k : Fin (k0_t1_loop (BitVec.ofNat 32 lo) (BitVec.ofNat 32 hi)).trips) :
    k0_off4 (BitVec.ofNat 32 lo) (BitVec.ofNat 32 hi) k = ![lo / 256 + k.val, 0] := by
  have hk := lt_of_lt_of_eq k.isLt (trips1 hlo hhi)
  rw [off4_def, fdiv_eq (by omega), iv_eq, BitVec.toNat_ofNat, Nat.mod_eq_of_lt (by omega)]

include hlo hhi in
/-- The side condition of the body, for two counts. -/
theorem chk1 (i : grid0.Coords) : k0_chk1 i (BitVec.ofNat 32 lo) (BitVec.ofNat 32 hi) := by
  have none (k : Fin (k0_t2_loop (BitVec.ofNat 32 lo) (BitVec.ofNat 32 hi)).trips) : False := by
    have := lt_of_lt_of_eq k.isLt (trips2 hlo hhi)
    omega
  refine ⟨fun _ => ok1 hlo hhi, fun k _ => ?_, fun k _ hinb => ?_, fun k _ => ?_, fun _ => ok2 hlo hhi,
    fun k => (none k).elim, fun k => (none k).elim, fun k => (none k).elim⟩
  · have hk := lt_of_lt_of_eq k.isLt (trips1 hlo hhi)
    rw [off3_eq hlo hhi]
    refine Fin.forall_fin_two.2 ⟨?_, (by decide : 0 + 2560 ≤ 2560)⟩
    show (lo / 256 + k.val) * 256 + 256 ≤ 11264
    omega
  · refine Affine.words_of_packed (Affine.packed_dvd (by decide) ?_ (by decide))
    rw [off3_eq hlo hhi]
    show 4 ∣ (lo / 256 + k.val) * 256
    omega
  · have hk := lt_of_lt_of_eq k.isLt (trips1 hlo hhi)
    rw [off4_eq hlo hhi]
    refine Fin.forall_fin_two.2 ⟨?_, (by decide : 0 + 256 ≤ 256)⟩
    show (lo / 256 + k.val) + 1 ≤ 44
    omega

/-! ## The table -/

variable (m : (ℓ : Loc nD τ sig) → Buf (Elt F) ℓ)

/-- How many token ids lie, signed, below `1280 q`: the id range's end the host computes. -/
def cnt (c : Dev nD) (q : Nat) : Nat :=
  Nat.count (fun t => ∃ h : t < 11264, (m ((c : Thread nD τ).loc main_arg6) (ix1 (⟨t, h⟩ : Fin 11264)) : BitVec 32).toInt < 1280 * q) 11264

end Cert.DwIdeal.Gen
-- ==== Proof.DwIdeal.Table.lean ====
/- The table of id range ends: cell `q` holds how many token ids lie below `1280 q`. -/
module

public import proofs.«01_k».proof.Proof.DwIdeal.Bounds

@[expose] public section

set_option maxRecDepth 16384

noncomputable section

namespace Cert.DwIdeal.Gen

open Idealize.ShloMosaic Idealize.ShloMosaic.TcCoe

variable {F : FTy → Type} [FloatOps F]
variable (m : (ℓ : Loc nD τ sig) → Buf (Elt F) ℓ)

/-- Cell `q` of the table counts the ids below `1280 q`. -/
theorem table (c : Dev nD) (q : Fin 26) : V m c main_v13 (ix1 q) = BitVec.ofNat 32 (cnt m c q.val) := by
  entry_read
  refine Routing.reduce_count (n := 26) (m := 11264) (by decide) _ _ _ _ q _ fun t => ?_
  rw [show (ValueIdx.ix2 q t : S26x11264.Idx) = ix2 q t from by funext a; fin_cases a <;> rfl]
  pointwise
  have e : (IntOp.muli (BitVec.ofNat 32 q.val) 1280#32 : BitVec 32).toInt = 1280 * q.val := by
    have key : ∀ q : Fin 26, (IntOp.muli (BitVec.ofNat 32 q.val) 1280#32 : BitVec 32).toInt = 1280 * q.val := by decide +kernel
    exact key q
  rw [WordCmp.cmpi_slt_eq, e]
  show BitVec.ofBool (decide ((m ((c : Thread nD τ).loc main_arg6) (ix1 t) : BitVec 32).toInt < 1280 * q.val)) = 1#1 ↔ _
  by_cases h : (m ((c : Thread nD τ).loc main_arg6) (ix1 t) : BitVec 32).toInt < 1280 * q.val
  · simp [h]
  · simp [h]

/-- A load of one cell of the table reads that cell. -/
theorem word_read (f : TbBuf0 (F := F) (0 : Dev nD) tbM0_0) (off : Fin 1 → Nat) (h : ∀ a, off a + S1.size a ≤ S26.size a) (q : Fin 26) (hq : off = ![q.val]) (y) :
    tbM0_0.view.readAt (Elt F) (Rect.unit (s := S26) off S1.size h).toLoadRect f y = f (ix1 q) := by
  subst hq
  rw [View.readAt_apply]
  show f _ = f _
  refine congrArg f (funext fun a => ?_)
  have e : ∀ a : Fin 1, (Rect.unit (s := S26) ![q.val] S1.size h).idx y a = ix1 q a := by
    intro a
    obtain rfl : a = 0 := Subsingleton.elim _ _
    refine Fin.ext ?_
    have : (y 0).val = 0 := by have := (y 0).isLt; change (y 0).val < 1 at this; omega
    show q.val + 1 * (y 0).val = q.val
    omega
  exact e a

theorem cnt_le (c : Dev nD) (q : Nat) : cnt m c q ≤ 11264 := Nat.count_le _

theorem word1 (i : grid0.Coords) (hc : cond0_0 i) (y) :
    tbM0_0.view.readAt (Elt F) (Rect.unit (s := S26) (k0_off1 i) S1.size (k0_off1_inb i hc)).toLoadRect (tbl m 0) y = BitVec.ofNat 32 (cnt m 0 (i 0).val) := by
  have hi : (i 0).val < 25 := (i 0).isLt
  rw [word_read (tbl m 0) _ _ ⟨(i 0).val, by omega⟩ (k0_off1_eq i) y]
  exact table m 0 ⟨(i 0).val, by omega⟩

theorem word2 (i : grid0.Coords) (hc : cond0_0 i) (y) :
    tbM0_0.view.readAt (Elt F) (Rect.unit (s := S26) (k0_off2 i) S1.size (k0_off2_inb i hc)).toLoadRect (tbl m 0) y = BitVec.ofNat 32 (cnt m 0 ((i 0).val + 1)) := by
  have hi : (i 0).val < 25 := (i 0).isLt
  rw [word_read (tbl m 0) _ _ ⟨(i 0).val + 1, by omega⟩ (k0_off2_eq i) y]
  exact table m 0 ⟨(i 0).val + 1, by omega⟩

theorem ok : Ok m := trivial

/-- What the body assumes of the two words it loads holds of every launch memory. -/
theorem hyps : Hyps m (ok m) := Hyps.of fun c t hc => by
  rw [word1 m _ hc, word2 m _ hc]
  exact chk1 (cnt_le m 0 _) (cnt_le m 0 _) _

end Cert.DwIdeal.Gen
-- ==== Proof.DwIdeal.Loop.lean ====
/- The loop over the row blocks, unrolled as an accumulation: trip `k` adds one product of a scaled one-hot block with a block of `e`. -/
module

public import proofs.«01_k».proof.Proof.DwIdeal.Frame
public import proofs.«01_k».proof.Proof.DwIdeal.Table
public import Idealize.ShloMosaic.Lib.VecWindow

@[expose] public section

set_option maxRecDepth 16384

noncomputable section

namespace Cert.DwIdeal.Value

open Idealize.ShloMosaic Idealize.ShloMosaic.TcCoe
open Idealize.SL Idealize.SL.Sem
open Cert.DwIdeal Cert.DwIdeal.Gen

/-- Row `r` of the token ids, -/
def idRow (x : Vec Ideal S44x256 .i32) (r : ℕ) : Vec Ideal S1x256 .i32 := fun y => x (ix2 ⟨r % 44, Nat.mod_lt _ (by decide)⟩ (y 1))
/-- of their scales, -/
def scRow (x : Vec Ideal S44x256 .f32) (r : ℕ) : Vec Ideal S1x256 .f32 := fun y => x (ix2 ⟨r % 44, Nat.mod_lt _ (by decide)⟩ (y 1))
/-- and the 256 rows of `e` that go with it. -/
def eBlk (x : Vec Ideal S11264x2560 .fp8e5m2) (r : ℕ) : Vec Ideal S256x2560 .fp8e5m2 :=
  fun y => x (ix2 ⟨(r * 256 + (y 0).val) % 11264, Nat.mod_lt _ (by decide)⟩ (y 1))

/-- What the loop has accumulated before trip `k`, started from `z` at row block `r0`. -/
def accum (a0 : BitVec 32) (ids : Vec Ideal S44x256 .i32) (es : Vec Ideal S44x256 .f32) (e : Vec Ideal S11264x2560 .fp8e5m2) (r0 : ℕ)
    (z : Vec Ideal S1280x2560 .f32) : ℕ → Vec Ideal S1280x2560 .f32
  | 0 => z
  | k + 1 => k0_pay2 a0 (idRow ids (r0 + k)) (scRow es (r0 + k)) (accum a0 ids es e r0 z k) (eBlk e (r0 + k))

theorem row_ld {e : EltTy} (x : Vec Ideal S44x256 e) (off : Fin 2 → ℕ) (inb : ∀ a, off a + S1x256.size a ≤ S44x256.size a) (r : ℕ) (hr : r < 44) (h : off = ![r, 0]) (y : S1x256.Idx) :
    View.ld x (Rect.unit (s := S44x256) off S1x256.size inb) y = x (ix2 ⟨r % 44, Nat.mod_lt _ (by decide)⟩ (y 1)) := by
  subst h
  show x _ = x _
  refine congrArg x (funext fun a => Fin.ext ?_)
  have h0 : (y 0).val = 0 := by have := (y 0).isLt; change (y 0).val < 1 at this; omega
  match a with
  | ⟨0, _⟩ => show r + 1 * (y 0).val = r % 44; omega
  | ⟨1, _⟩ => show 0 + 1 * (y 1).val = (y 1).val; omega

variable {lo hi : ℕ} (hlo : lo ≤ 11264) (hhi : hi ≤ 11264)

include hlo hhi in
/-- One trip of the loop. -/
theorem trip_read (𝒱 : Variants) (c : Dev nD) (bd : Option 𝒱.V) (i : grid0.Coords) (arg2 : Memref sig .tc .smem S26 .i32) (harg2 : arg2.IsWhole) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg9 : Memref sig .tc .hbm S11264x2560 .fp8e5m2) (harg9 : arg9.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (arg13 : DmaSems sig S_) (arg0 : BitVec 32) (k0_h1 : k0_cond1 i = 1#1) (k0_hw1 : k0_chk1 i (BitVec.ofNat 32 lo) (BitVec.ofNat 32 hi)) (X_arg7 : BufTy.Contents (Elt Ideal) arg7.view.ty) (X_arg8 : BufTy.Contents (Elt Ideal) arg8.view.ty) (X_arg9 : BufTy.Contents (Elt Ideal) arg9.view.ty) (k : Fin (k0_t1_loop (BitVec.ofNat 32 lo) (BitVec.ofNat 32 hi)).trips) (f_arg10 : BufTy.Contents (Elt Ideal) arg10.view.ty) :
    arg10.view.read (Elt Ideal) (arg10.view.writes (Elt Ideal) f_arg10 (tripL_k0_t1 (F := Ideal) 𝒱 c bd i arg2 harg2 arg3 harg3 arg4 harg4 arg5 harg5 arg6 harg6 arg7 harg7 arg8 harg8 arg9 harg9 arg10 harg10 arg11 harg11 arg12 harg12 arg13 arg0 k0_h1 (BitVec.ofNat 32 lo) (BitVec.ofNat 32 hi) k0_hw1 X_arg7 X_arg8 X_arg9 k f_arg10))
      = k0_pay2 arg0 (idRow (arg7.view.read (Elt Ideal) X_arg7) (lo / 256 + k.val)) (scRow (arg8.view.read (Elt Ideal) X_arg8) (lo / 256 + k.val))
          (arg10.view.read (Elt Ideal) f_arg10) (eBlk (arg9.view.read (Elt Ideal) X_arg9) (lo / 256 + k.val)) := by
  have hk := lt_of_lt_of_eq k.isLt (trips1 hlo hhi)
  unfold tripL_k0_t1 trip_k0_t1
  dsimp only
  unfold trip_k0_t1.sl.v231 trip_k0_t1.sl.dma0
  refine (View.read_writes_full arg10.view f_arg10 inb_S1280x2560_S1280x2560_0_0 _ []).trans ?_
  have e7 : View.readAt (Elt Ideal) arg7.view (Rect.unit (s := S44x256) (k0_off4 (BitVec.ofNat 32 lo) (BitVec.ofNat 32 hi) k) S1x256.size (k0_off4_inb i _ _ k0_hw1 k k0_h1)).toLoadRect X_arg7
      = idRow (arg7.view.read (Elt Ideal) X_arg7) (lo / 256 + k.val) := by
    rw [View.readAt_eq_ld]
    exact funext fun y => row_ld _ _ _ (lo / 256 + k.val) (by omega) (off4_eq hlo hhi k) y
  have e8 : View.readAt (Elt Ideal) arg8.view (Rect.unit (s := S44x256) (k0_off4 (BitVec.ofNat 32 lo) (BitVec.ofNat 32 hi) k) S1x256.size (k0_off4_inb i _ _ k0_hw1 k k0_h1)).toLoadRect X_arg8
      = scRow (arg8.view.read (Elt Ideal) X_arg8) (lo / 256 + k.val) := by
    rw [View.readAt_eq_ld]
    exact funext fun y => row_ld _ _ _ (lo / 256 + k.val) (by omega) (off4_eq hlo hhi k) y
  have e10 : View.readAt (Elt Ideal) arg10.view (Rect.unit (s := S1280x2560) ![0, 0] S1280x2560.size inb_S1280x2560_S1280x2560_0_0).toLoadRect f_arg10
      = arg10.view.read (Elt Ideal) f_arg10 := by
    rw [View.readAt_eq_ld]
    exact View.ld_unit_lit _ _ (by decide)
  refine (congr (congr (congr (congrArg (k0_pay2 (F := Ideal) arg0) e7) e8) e10) ?_)
  refine (View.readAt_eq_ld arg12.view _ _).trans ?_
  rw [View.read_writes_whole]
  refine (View.ld_unit_lit _ _ (by decide)).trans ?_
  funext y
  have h0 : (y 0).val < 256 := (y 0).isLt
  have ho := off3_eq hlo hhi k
  show arg9.view.read (Elt Ideal) X_arg9 _ = arg9.view.read (Elt Ideal) X_arg9 _
  refine congrArg _ (funext fun a => Fin.ext ?_)
  match a with
  | ⟨0, _⟩ =>
    show k0_off3 (BitVec.ofNat 32 lo) (BitVec.ofNat 32 hi) k 0 + 1 * (y 0).val = ((lo / 256 + k.val) * 256 + (y 0).val) % 11264
    rw [ho]
    show (lo / 256 + k.val) * 256 + 1 * (y 0).val = _
    omega
  | ⟨1, _⟩ =>
    show k0_off3 (BitVec.ofNat 32 lo) (BitVec.ofNat 32 hi) k 1 + 1 * (y 1).val = (y 1).val
    rw [ho]
    show 0 + 1 * (y 1).val = _
    omega

include hlo hhi in
/-- The trips before `n`. -/
theorem acc_read (𝒱 : Variants) (c : Dev nD) (bd : Option 𝒱.V) (i : grid0.Coords) (arg2 : Memref sig .tc .smem S26 .i32) (harg2 : arg2.IsWhole) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg9 : Memref sig .tc .hbm S11264x2560 .fp8e5m2) (harg9 : arg9.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (arg13 : DmaSems sig S_) (arg0 : BitVec 32) (k0_h1 : k0_cond1 i = 1#1) (k0_hw1 : k0_chk1 i (BitVec.ofNat 32 lo) (BitVec.ofNat 32 hi)) (X_arg7 : BufTy.Contents (Elt Ideal) arg7.view.ty) (X_arg8 : BufTy.Contents (Elt Ideal) arg8.view.ty) (X_arg9 : BufTy.Contents (Elt Ideal) arg9.view.ty) (G : BufTy.Contents (Elt Ideal) arg10.view.ty) :
    ∀ n, n ≤ (k0_t1_loop (BitVec.ofNat 32 lo) (BitVec.ofNat 32 hi)).trips →
      arg10.view.read (Elt Ideal) (arg10.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 arg0 k0_h1 (BitVec.ofNat 32 lo) (BitVec.ofNat 32 hi) k0_hw1 X_arg7 X_arg8 X_arg9 G n))
        = accum arg0 (arg7.view.read (Elt Ideal) X_arg7) (arg8.view.read (Elt Ideal) X_arg8) (arg9.view.read (Elt Ideal) X_arg9) (lo / 256)
            (arg10.view.read (Elt Ideal) G) n
  | 0, _ => rfl
  | n + 1, h => by
    have ih := acc_read 𝒱 c bd i arg2 harg2 arg3 harg3 arg4 harg4 arg5 harg5 arg6 harg6 arg7 harg7 arg8 harg8 arg9 harg9 arg10 harg10 arg11 harg11 arg12 harg12 arg13 arg0 k0_h1 k0_hw1 X_arg7 X_arg8 X_arg9 G n (by omega)
    have s := pb_k0_t1_succ (F := Ideal) 𝒱 c bd i arg2 harg2 arg3 harg3 arg4 harg4 arg5 harg5 arg6 harg6 arg7 harg7 arg8 harg8 arg9 harg9 arg10 harg10 arg11 harg11 arg12 harg12 arg13 arg0 k0_h1 (BitVec.ofNat 32 lo) (BitVec.ofNat 32 hi) k0_hw1 X_arg7 X_arg8 X_arg9 G ⟨n, h⟩
    have t := trip_read hlo hhi 𝒱 c bd i arg2 harg2 arg3 harg3 arg4 harg4 arg5 harg5 arg6 harg6 arg7 harg7 arg8 harg8 arg9 harg9 arg10 harg10 arg11 harg11 arg12 harg12 arg13 arg0 k0_h1 k0_hw1 X_arg7 X_arg8 X_arg9 ⟨n, h⟩ (arg10.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 arg0 k0_h1 (BitVec.ofNat 32 lo) (BitVec.ofNat 32 hi) k0_hw1 X_arg7 X_arg8 X_arg9 G n))
    rw [s, View.writes_append]
    refine t.trans ?_
    rw [ih]
    rfl

/-- The whole loop, at bounds known to be words of numbers. -/
theorem loop_read (𝒱 : Variants) (c : Dev nD) (bd : Option 𝒱.V) (i : grid0.Coords) (arg2 : Memref sig .tc .smem S26 .i32) (harg2 : arg2.IsWhole) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg9 : Memref sig .tc .hbm S11264x2560 .fp8e5m2) (harg9 : arg9.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (arg13 : DmaSems sig S_) (arg0 : BitVec 32) (k0_h1 : k0_cond1 i = 1#1) (v164 : Elt Ideal .i32) (v184 : Elt Ideal .i32) (k0_hw1 : k0_chk1 i v164 v184) (X_arg7 : BufTy.Contents (Elt Ideal) arg7.view.ty) (X_arg8 : BufTy.Contents (Elt Ideal) arg8.view.ty) (X_arg9 : BufTy.Contents (Elt Ideal) arg9.view.ty) (G : BufTy.Contents (Elt Ideal) arg10.view.ty) (lo hi : ℕ) (hlo : lo ≤ 11264) (hhi : hi ≤ 11264) (h164 : v164 = BitVec.ofNat 32 lo) (h184 : v184 = BitVec.ofNat 32 hi) :
    arg10.view.read (Elt Ideal) (arg10.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 arg0 k0_h1 v164 v184 k0_hw1 X_arg7 X_arg8 X_arg9 G (k0_t1_loop v164 v184).trips))
      = accum arg0 (arg7.view.read (Elt Ideal) X_arg7) (arg8.view.read (Elt Ideal) X_arg8) (arg9.view.read (Elt Ideal) X_arg9) (lo / 256)
          (arg10.view.read (Elt Ideal) G) ((hi + 255) / 256 - lo / 256) := by
  subst h164 h184
  rw [acc_read hlo hhi 𝒱 c bd i arg2 harg2 arg3 harg3 arg4 harg4 arg5 harg5 arg6 harg6 arg7 harg7 arg8 harg8 arg9 harg9 arg10 harg10 arg11 harg11 arg12 harg12 arg13 arg0 k0_h1 k0_hw1 X_arg7 X_arg8 X_arg9 G _ le_rfl, trips1 hlo hhi]

/-- The remainder loop has no trips, so it stores nothing. -/
theorem rest_none (𝒱 : Variants) (c : Dev nD) (bd : Option 𝒱.V) (i : grid0.Coords) (arg2 : Memref sig .tc .smem S26 .i32) (harg2 : arg2.IsWhole) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg9 : Memref sig .tc .hbm S11264x2560 .fp8e5m2) (harg9 : arg9.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (arg13 : DmaSems sig S_) (arg0 : BitVec 32) (k0_h1 : k0_cond1 i = 1#1) (v164 : Elt Ideal .i32) (v184 : Elt Ideal .i32) (k0_hw1 : k0_chk1 i v164 v184) (X_arg7 : BufTy.Contents (Elt Ideal) arg7.view.ty) (X_arg8 : BufTy.Contents (Elt Ideal) arg8.view.ty) (X_arg9 : BufTy.Contents (Elt Ideal) arg9.view.ty) (G : BufTy.Contents (Elt Ideal) arg10.view.ty) (lo hi : ℕ) (hlo : lo ≤ 11264) (hhi : hi ≤ 11264) (h164 : v164 = BitVec.ofNat 32 lo) (h184 : v184 = BitVec.ofNat 32 hi) :
    pb_k0_t2 (F := Ideal) 𝒱 c bd i arg2 harg2 arg3 harg3 arg4 harg4 arg5 harg5 arg6 harg6 arg7 harg7 arg8 harg8 arg9 harg9 arg10 harg10 arg11 harg11 arg12 harg12 arg13 arg0 k0_h1 v164 v184 k0_hw1 X_arg7 X_arg8 X_arg9 G (k0_t2_loop v164 v184).trips = [] := by
  subst h164 h184
  rw [trips2 hlo hhi]
  rfl

end Cert.DwIdeal.Value
-- ==== Proof.DwIdeal.Step.lean ====
/- What one grid point leaves in the output block, as a function of the blocks it reads. -/
module

public import proofs.«01_k».proof.Proof.DwIdeal.Loop
public import Idealize.ShloMosaic.Lib.Pointwise

@[expose] public section

set_option maxRecDepth 16384

noncomputable section

namespace Cert.DwIdeal.Value

open Idealize.ShloMosaic Idealize.ShloMosaic.TcCoe Idealize.ShloMosaic.Pointwise
open Idealize.SL Idealize.SL.Sem
open Cert.DwIdeal Cert.DwIdeal.Gen

/-- The scaled, transposed block of logit gradients the body leaves in its scratch buffer. -/
def scaled (x0 : Vec Ideal S1024x1280 .fp8e5m2) (x1 : Vec Ideal S1x10x1024 .f32) (x2 : Vec Ideal S1x1024 .f32) : Vec Ideal S1280x1024 .bf16 :=
  fun y => x0 (ix2 (y 1) (y 0)) * (x1 (ix3 0 ⟨y 0 / 128, by idx_bounds; omega⟩ (y 1)) * x2 (ix2 0 (y 1)))

/-- A load of a whole buffer after stores reads the stores' canonical contents. -/
theorem load_whole {S : Shape} {e : EltTy} {sp : Space} (v : View sig .tc sp S e) (L : List (View.Piece (Elt Ideal) S e)) {off : Fin S.rank → Nat}
    (h : ∀ a, off a = 0) (inb : ∀ a, off a + S.size a ≤ S.size a) :
    v.readCov L (Rect.unit off S.size inb).toLoadRect = View.canon L :=
  (View.readCov_eq_canon' v L _).trans (View.ld_unit_lit inb (View.canon L) h)

set_option maxHeartbeats 4000000 in
theorem out_B (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : ¬cond0_0 i) (x0 : Vec Ideal S1024x1280 .fp8e5m2) (x1 : Vec Ideal S1x10x1024 .f32) (x2 : Vec Ideal S1x1024 .f32) (x3 : Vec Ideal S1024x2560 .fp8e4m3) (x4 : Vec Ideal S44x256 .i32) (x5 : Vec Ideal S44x256 .f32) (xt0 : TbBuf0 (F := Ideal) c tbM0_0) (xo6 : Vec Ideal S1280x2560 .f32) (fh0 : HbBuf0 (F := Ideal) c hbM0_0) : out0_B_6 (F := Ideal) c i arg3 harg3 arg4 harg4 arg5 harg5 arg6 harg6 arg7 harg7 arg8 harg8 arg10 harg10 arg11 harg11 arg12 harg12 hc0 x0 x1 x2 x3 x4 x5 xt0 xo6 fh0 = k0_pay4 xo6 (scaled x0 x1 x2) x3 := by
  unfold out0_B_6
  frame_out
  refine congrArg (fun G => k0_pay4 xo6 G x3) ?_
  rw [load_whole _ _ (by decide)]
  funext y
  canon_tiles x hx
  all_goals (open_payloads; pointwise [scaled]; blk_point [])

set_option maxHeartbeats 4000000 in
theorem out_A (c : Dev nD) (i : grid0.Coords) (arg3 : Memref sig .tc .vmem S1024x1280 .fp8e5m2) (harg3 : arg3.IsWhole) (arg4 : Memref sig .tc .vmem S1x10x1024 .f32) (harg4 : arg4.IsWhole) (arg5 : Memref sig .tc .vmem S1x1024 .f32) (harg5 : arg5.IsWhole) (arg6 : Memref sig .tc .vmem S1024x2560 .fp8e4m3) (harg6 : arg6.IsWhole) (arg7 : Memref sig .tc .vmem S44x256 .i32) (harg7 : arg7.IsWhole) (arg8 : Memref sig .tc .vmem S44x256 .f32) (harg8 : arg8.IsWhole) (arg10 : Memref sig .tc .vmem S1280x2560 .f32) (harg10 : arg10.IsWhole) (arg11 : Memref sig .tc .vmem S1280x1024 .bf16) (harg11 : arg11.IsWhole) (arg12 : Memref sig .tc .vmem S256x2560 .fp8e5m2) (harg12 : arg12.IsWhole) (hc0 : cond0_0 i) (x0 : Vec Ideal S1024x1280 .fp8e5m2) (x1 : Vec Ideal S1x10x1024 .f32) (x2 : Vec Ideal S1x1024 .f32) (x3 : Vec Ideal S1024x2560 .fp8e4m3) (x4 : Vec Ideal S44x256 .i32) (x5 : Vec Ideal S44x256 .f32) (xt0 : TbBuf0 (F := Ideal) c tbM0_0) (fh0 : HbBuf0 (F := Ideal) c hbM0_0) (k0_hw1 : k0_chk1 i (tbM0_0.view.readAt (Elt Ideal) (Rect.unit (s := S26) (k0_off1 i) S1.size (k0_off1_inb i hc0)).toLoadRect xt0 (Shape.Idx.first (numel1_S1.symm ▸ Nat.one_pos))) (tbM0_0.view.readAt (Elt Ideal) (Rect.unit (s := S26) (k0_off2 i) S1.size (k0_off2_inb i hc0)).toLoadRect xt0 (Shape.Idx.first (numel1_S1.symm ▸ Nat.one_pos))))
    (lo hi : ℕ) (hlo : lo ≤ 11264) (hhi : hi ≤ 11264) (h164 : (tbM0_0.view.readAt (Elt Ideal) (Rect.unit (s := S26) (k0_off1 i) S1.size (k0_off1_inb i hc0)).toLoadRect xt0 (Shape.Idx.first (numel1_S1.symm ▸ Nat.one_pos))) = BitVec.ofNat 32 lo) (h184 : (tbM0_0.view.readAt (Elt Ideal) (Rect.unit (s := S26) (k0_off2 i) S1.size (k0_off2_inb i hc0)).toLoadRect xt0 (Shape.Idx.first (numel1_S1.symm ▸ Nat.one_pos))) = BitVec.ofNat 32 hi) :
    out0_A_6 (F := Ideal) c i arg3 harg3 arg4 harg4 arg5 harg5 arg6 harg6 arg7 harg7 arg8 harg8 arg10 harg10 arg11 harg11 arg12 harg12 hc0 x0 x1 x2 x3 x4 x5 xt0 fh0 k0_hw1 = k0_pay4 (accum (BitVec.ofNat 32 (i 0)) x4 x5 ((Memref.whole main_arg4).view.read (Elt Ideal) fh0) (lo / 256) (k0_pay5 (F := Ideal)) ((hi + 255) / 256 - lo / 256)) (scaled x0 x1 x2) x3 := by
  unfold out0_A_6 kernelRun0_A
  dsimp only
  refine (View.read_writes_full VO0_6 VO0_6.junk inb_S1280x2560_S1280x2560_0_0 _ _).trans ?_
  refine congr (congr (congrArg (k0_pay4 (F := Ideal)) ?_) ?_) ?_
  rotate_left
  · unfold kernelRun0_A.sl.v155
    frame_out
    rw [load_whole _ _ (by decide)]
    funext y
    canon_tiles x hx
    all_goals (open_payloads; pointwise [scaled]; blk_point [])
  · refine (View.readAt_eq_ld arg6.view _ _).trans ?_
    rw [harg6.read_unread]
    exact View.ld_unit_lit _ _ (by decide)
  · unfold kernelRun0_A.sl.v153
    refine (View.readAt_eq_ld arg10.view _ _).trans ?_
    refine (View.ld_unit_lit _ _ (by decide)).trans ?_
    have r := rest_none Variants.none c none i tbM0_0 htbM0_0 arg3 harg3 arg4 harg4 arg5 harg5 arg6 harg6 arg7 harg7 arg8 harg8 (Memref.whole main_arg4) (Memref.isWhole_whole _) arg10 harg10 arg11 harg11 arg12 harg12 cc0_scratch2 (BitVec.ofNat 32 (i 0)) hc0 _ _ k0_hw1 (harg7.unread x4) (harg8.unread x5) fh0
    have l := loop_read Variants.none c none i tbM0_0 htbM0_0 arg3 harg3 arg4 harg4 arg5 harg5 arg6 harg6 arg7 harg7 arg8 harg8 (Memref.whole main_arg4) (Memref.isWhole_whole _) arg10 harg10 arg11 harg11 arg12 harg12 cc0_scratch2 (BitVec.ofNat 32 (i 0)) hc0 _ _ k0_hw1 (harg7.unread x4) (harg8.unread x5) fh0
    refine (congrArg (fun L => arg10.view.read (Elt Ideal) (arg10.view.writes (Elt Ideal) arg10.view.junk (L ++ _))) (r _ lo hi hlo hhi h164 h184)).trans ?_
    refine (congrArg (arg10.view.read (Elt Ideal)) (View.writes_append _ _ _ _)).trans ?_
    show arg10.view.read (Elt Ideal) (arg10.view.writes (Elt Ideal) arg10.view.junk (_ ++ kernelRun0_A.sl.H6_1)) = _
    refine (congrArg (arg10.view.read (Elt Ideal)) (View.writes_append _ _ _ _)).trans ?_
    refine (l _ lo hi hlo hhi h164 h184).trans ?_
    rw [harg7.read_unread, harg8.read_unread]
    refine congrArg (fun z => accum (BitVec.ofNat 32 (i 0)) x4 x5 ((Memref.whole main_arg4).view.read (Elt Ideal) fh0) (lo / 256) z ((hi + 255) / 256 - lo / 256)) ?_
    exact View.read_writes_full arg10.view arg10.view.junk inb_S1280x2560_S1280x2560_0_0 _ []
end Cert.DwIdeal.Value
-- ==== Proof.DwMath.lean ====
/- The arithmetic of the weight-gradient body, one element at a time, and the reference's result as one formula. -/
module

public import proofs.«01_k».proof.Proof.DwIdeal.Loop
public import proofs.«01_k».proof.Proof.DwIdeal.Step
public import proofs.«01_k».proof.Proof.Gen.DwRefIdeal.Frame
public import Idealize.ShloMosaic.Lib.Pipeline.ValueKit

@[expose] public section

set_option maxRecDepth 16384

noncomputable section

open Idealize.ShloMosaic Idealize.ShloMosaic.TcCoe Idealize.SL.Sem

namespace Cert.DwIdeal.Value

open Cert.DwIdeal Cert.DwIdeal.Gen

/-- The first store of an output block fills it with zeros. -/
theorem zero_fill (j) : k0_pay5 (F := Ideal) j = 0 := by pointwise [k0_pay5]

/-- The store at every point: what was there plus one product. -/
theorem accumulate (acc : Vec Ideal S1280x2560 .f32) (G : Vec Ideal S1280x1024 .bf16) (X : Vec Ideal S1024x2560 .fp8e4m3) (j) :
    k0_pay4 acc G X j = acc j + ∑ k : Fin 1024, G (ix2 (j 0) k) * X (ix2 k (j 1)) := by pointwise [k0_pay4]

/-- One trip of the loop: a token's row is added where its id is the row's number. -/
theorem lookup (a0 : BitVec 32) (ids : Vec Ideal S1x256 .i32) (es : Vec Ideal S1x256 .f32) (acc : Vec Ideal S1280x2560 .f32) (e : Vec Ideal S256x2560 .fp8e5m2) (j) :
    k0_pay2 a0 ids es acc e j = acc j + ∑ k : Fin 256, (if BitVec.ofNat 32 (j 0).val + a0 * 1280#32 = ids (ix2 0 k) then es (ix2 0 k) * e (ix2 k (j 1)) else 0) := by
  pointwise [k0_pay2]
  refine congrArg (fun z : EReal => acc j + z) (Finset.sum_congr rfl fun k _ => ?_)
  show (if (BitVec.ofBool (decide (BitVec.ofNat 32 (j 0).val + a0 * 1280#32 = ids (ix2 0 k)))) = 1#1 then _ else _) = _
  by_cases h : BitVec.ofNat 32 (j 0).val + a0 * 1280#32 = ids (ix2 0 k)
  · simp [h]
  · simp [h]

/-- What token `t` adds to row `v` of the table's gradient at column `d`; zero past the last token. -/
def tok (ids : Vec Ideal S11264 .i32) (es : Vec Ideal S11264 .f32) (e : Vec Ideal S11264x2560 .fp8e5m2) (v : BitVec 32) (d : Fin 2560) (t : ℕ) : EReal :=
  if h : t < 11264 then (if v = ids (ix1 (⟨t, h⟩ : Fin 11264)) then es (ix1 (⟨t, h⟩ : Fin 11264)) * e (ix2 (⟨t, h⟩ : Fin 11264) d) else 0) else 0

theorem sum_block (f : ℕ → EReal) (a : ℕ) : ∑ k : Fin 256, f (a + k.val) = ∑ t ∈ Finset.Ico a (a + 256), f t := by
  rw [Fin.sum_univ_eq_sum_range (fun k => f (a + k)) 256, Finset.sum_Ico_eq_sum_range, Nat.add_sub_cancel_left]

/-- The loop's accumulation as a sum over the tokens of the rows it visits. -/
theorem accum_at (ids : Vec Ideal S11264 .i32) (es : Vec Ideal S11264 .f32) (e : Vec Ideal S11264x2560 .fp8e5m2) (a0 : BitVec 32)
    (ids2 : Vec Ideal S44x256 .i32) (es2 : Vec Ideal S44x256 .f32)
    (hids : ∀ (r : Fin 44) (k : Fin 256) (t : Fin 11264), t.val = r.val * 256 + k.val → ids2 (ix2 r k) = ids (ix1 t))
    (hes : ∀ (r : Fin 44) (k : Fin 256) (t : Fin 11264), t.val = r.val * 256 + k.val → es2 (ix2 r k) = es (ix1 t))
    (r0 : ℕ) (z : Vec Ideal S1280x2560 .f32) (j : S1280x2560.Idx) : ∀ n, r0 + n ≤ 44 →
    accum a0 ids2 es2 e r0 z n j = z j + ∑ t ∈ Finset.Ico (r0 * 256) ((r0 + n) * 256), tok ids es e (BitVec.ofNat 32 (j 0).val + a0 * 1280#32) (j 1) t
  | 0, _ => by simp [accum]
  | n + 1, h => by
    show k0_pay2 a0 (idRow ids2 (r0 + n)) (scRow es2 (r0 + n)) (accum a0 ids2 es2 e r0 z n) (eBlk e (r0 + n)) j = _
    rw [lookup, accum_at ids es e a0 ids2 es2 hids hes r0 z j n (by omega), add_assoc]
    refine congrArg (fun y : EReal => z j + y) ?_
    have hs := Finset.sum_Ico_consecutive (tok ids es e (BitVec.ofNat 32 (j 0).val + a0 * 1280#32) (j 1)) (show r0 * 256 ≤ (r0 + n) * 256 by omega)
      (show (r0 + n) * 256 ≤ (r0 + (n + 1)) * 256 by omega)
    rw [← hs]
    refine congrArg (fun y : EReal => _ + y) ?_
    rw [show (r0 + (n + 1)) * 256 = (r0 + n) * 256 + 256 by omega, ← sum_block]
    refine Finset.sum_congr rfl fun k _ => ?_
    have hk := k.isLt
    have ht : (r0 + n) * 256 + k.val < 11264 := by omega
    have e1 : idRow ids2 (r0 + n) (ix2 0 k) = ids (ix1 (⟨(r0 + n) * 256 + k.val, ht⟩ : Fin 11264)) :=
      hids ⟨(r0 + n) % 44, _⟩ k _ (by show (r0 + n) * 256 + k.val = (r0 + n) % 44 * 256 + k.val; omega)
    have e2 : scRow es2 (r0 + n) (ix2 0 k) = es (ix1 (⟨(r0 + n) * 256 + k.val, ht⟩ : Fin 11264)) :=
      hes ⟨(r0 + n) % 44, _⟩ k _ (by show (r0 + n) * 256 + k.val = (r0 + n) % 44 * 256 + k.val; omega)
    have e3 : eBlk e (r0 + n) (ix2 k (j 1)) = e (ix2 (⟨(r0 + n) * 256 + k.val, ht⟩ : Fin 11264) (j 1)) := by
      show e _ = e _
      refine congrArg e (funext fun a => ?_)
      match a with
      | ⟨0, _⟩ => exact Fin.ext (Nat.mod_eq_of_lt ht)
      | ⟨1, _⟩ => rfl
    rw [e1, e2, e3]
    unfold tok
    rw [dif_pos ht]

/-- Number of tokens whose id is below `b`, for sorted ids: the first token at or past `b`. -/
theorem count_bounds (id : Fin 11264 → ℤ) (hs : ∀ a b, a ≤ b → id a ≤ id b) (b : ℤ) (t : Fin 11264) :
    (b ≤ id t → Nat.count (fun u => ∃ h : u < 11264, id ⟨u, h⟩ < b) 11264 ≤ t.val) ∧
    (id t < b → t.val < Nat.count (fun u => ∃ h : u < 11264, id ⟨u, h⟩ < b) 11264) := by
  classical
  rw [Nat.count_eq_card_filter_range]
  constructor
  · intro h
    have : (Finset.filter (fun u => ∃ h : u < 11264, id ⟨u, h⟩ < b) (Finset.range 11264)) ⊆ Finset.range t.val := by
      intro u hu
      obtain ⟨_, hu', hlt⟩ := Finset.mem_filter.1 hu
      refine Finset.mem_range.2 (lt_of_not_ge fun hge => ?_)
      have := hs t ⟨u, hu'⟩ hge
      omega
    simpa using Finset.card_le_card this
  · intro h
    have : Finset.range (t.val + 1) ⊆ (Finset.filter (fun u => ∃ h : u < 11264, id ⟨u, h⟩ < b) (Finset.range 11264)) := by
      intro u hu
      have hu := Finset.mem_range.1 hu
      have ht := t.isLt
      refine Finset.mem_filter.2 ⟨Finset.mem_range.2 (by omega), by omega, ?_⟩
      have := hs ⟨u, by omega⟩ t (show u ≤ t.val by omega)
      omega
    have := Finset.card_le_card this
    simp only [Finset.card_range] at this
    omega

/-- A small number's word holds just that number. -/
theorem word_eq (v : ℕ) (hv : v < 32000) (x : BitVec 32) : BitVec.ofNat 32 v = x ↔ x.toInt = (v : ℤ) := by
  have h : (BitVec.ofNat 32 v).toInt = (v : ℤ) := by
    rw [BitVec.toInt_ofNat']
    simp only [Nat.reducePow, Int.bmod]
    omega
  constructor
  · rintro rfl; exact h
  · intro hx; exact BitVec.eq_of_toInt_eq (h.trans hx.symm)

theorem row_word (i p : ℕ) : BitVec.ofNat 32 p + BitVec.ofNat 32 i * 1280#32 = BitVec.ofNat 32 (i * 1280 + p) := by
  apply BitVec.eq_of_toNat_eq
  simp only [BitVec.toNat_add, BitVec.toNat_mul, BitVec.toNat_ofNat]
  omega

/-- For sorted ids, the rows the loop visits hold every token of the block's ids, so the visited tokens add up to all of them. -/
theorem visited (ids : Vec Ideal S11264 .i32) (es : Vec Ideal S11264 .f32) (e : Vec Ideal S11264x2560 .fp8e5m2)
    (hs : ∀ a b : Fin 11264, a ≤ b → (ids (ix1 a) : BitVec 32).toInt ≤ (ids (ix1 b) : BitVec 32).toInt) (i p : ℕ) (hi : i < 25) (hp : p < 1280) (d : Fin 2560)
    (lo hi' : ℕ) (hlo : lo = Nat.count (fun u => ∃ h : u < 11264, (ids (ix1 (⟨u, h⟩ : Fin 11264)) : BitVec 32).toInt < 1280 * (i : ℕ)) 11264)
    (hhi : hi' = Nat.count (fun u => ∃ h : u < 11264, (ids (ix1 (⟨u, h⟩ : Fin 11264)) : BitVec 32).toInt < 1280 * ((i + 1 : ℕ) : ℤ)) 11264) :
    ∑ t ∈ Finset.Ico (lo / 256 * 256) ((lo / 256 + ((hi' + 255) / 256 - lo / 256)) * 256), tok ids es e (BitVec.ofNat 32 p + BitVec.ofNat 32 i * 1280#32) d t
      = ∑ t : Fin 11264, if (ids (ix1 t) : BitVec 32).toInt = ((i * 1280 + p : ℕ) : ℤ) then es (ix1 t) * e (ix2 t d) else 0 := by
  have hz : ∀ t : ℕ, t ∉ Finset.Ico (lo / 256 * 256) ((lo / 256 + ((hi' + 255) / 256 - lo / 256)) * 256) →
      tok ids es e (BitVec.ofNat 32 p + BitVec.ofNat 32 i * 1280#32) d t = 0 := by
    intro t ht
    unfold tok
    split_ifs with h1 h2
    · exfalso
      rw [row_word, word_eq _ (by omega)] at h2
      have a := (count_bounds (fun a => (ids (ix1 a) : BitVec 32).toInt) hs (1280 * (i : ℕ)) ⟨t, h1⟩).1 (by show _ ≤ _; rw [h2]; push_cast; omega)
      have b := (count_bounds (fun a => (ids (ix1 a) : BitVec 32).toInt) hs (1280 * ((i + 1 : ℕ) : ℤ)) ⟨t, h1⟩).2 (by show _ < _; rw [h2]; push_cast; omega)
      rw [← hlo] at a
      rw [← hhi] at b
      simp only at a b
      exact ht (Finset.mem_Ico.2 ⟨by omega, by omega⟩)
    · rfl
    · rfl
  have hw : ∀ t : Fin 11264, tok ids es e (BitVec.ofNat 32 p + BitVec.ofNat 32 i * 1280#32) d t.val
      = if (ids (ix1 t) : BitVec 32).toInt = ((i * 1280 + p : ℕ) : ℤ) then es (ix1 t) * e (ix2 t d) else 0 := by
    intro t
    unfold tok
    rw [dif_pos t.isLt]
    refine if_congr ?_ rfl rfl
    rw [row_word]
    exact word_eq _ (by omega) _
  rw [← Finset.sum_congr rfl (fun t _ => hw t), Fin.sum_univ_eq_sum_range (fun t => tok ids es e (BitVec.ofNat 32 p + BitVec.ofNat 32 i * 1280#32) d t) 11264]
  have hsub : ∀ s : Finset ℕ, (∀ t ∉ s, tok ids es e (BitVec.ofNat 32 p + BitVec.ofNat 32 i * 1280#32) d t = 0) → ∀ s' : Finset ℕ,
      (∀ t ∉ s', tok ids es e (BitVec.ofNat 32 p + BitVec.ofNat 32 i * 1280#32) d t = 0) →
      ∑ t ∈ s, tok ids es e (BitVec.ofNat 32 p + BitVec.ofNat 32 i * 1280#32) d t = ∑ t ∈ s', tok ids es e (BitVec.ofNat 32 p + BitVec.ofNat 32 i * 1280#32) d t := by
    intro s h s' h'
    rw [Finset.sum_subset (Finset.subset_union_left (s₂ := s')) fun t _ ht => h t ht, Finset.sum_subset (Finset.subset_union_right (s₁ := s)) fun t _ ht => h' t ht]
  refine hsub _ hz _ fun t ht => ?_
  unfold tok
  exact dif_neg fun h => ht (Finset.mem_range.2 h)

/-- The head's part of the reference, -/
theorem head_at (g : Vec Ideal S22x512x32000 .fp8e5m2) (s : Vec Ideal S22x512x250 .f32) (x : Vec Ideal S22x512x2560 .fp8e4m3) (xs : Vec Ideal S22x512 .f32) (j) :
    Cert.DwRefIdeal.Gen.k0_pay1 (F := Ideal) g s x xs j
      = ∑ t : Fin 11264, g (ix3 ⟨t / 512, by omega⟩ ⟨t % 512, by omega⟩ (j 0)) * s (ix3 ⟨t / 512, by omega⟩ ⟨t % 512, by omega⟩ ⟨j 0 / 128, by idx_bounds; omega⟩)
          * (x (ix3 ⟨t / 512, by omega⟩ ⟨t % 512, by omega⟩ (j 1)) * xs (ix2 ⟨t / 512, by omega⟩ ⟨t % 512, by omega⟩)) := by
  pointwise [Cert.DwRefIdeal.Gen.k0_pay1]
  refine Fin.sum_mul_add_congr fun p q hl => ?_
  have e0 : (p.val * 512 + q.val) / 512 = p.val := by have := q.isLt; omega
  have e1 : (p.val * 512 + q.val) % 512 = q.val := by have := q.isLt; omega
  simp only [e0, e1]

/-- and the scaled embedding gradients it scatters. -/
theorem emb_at (e : Vec Ideal S11264x2560 .fp8e5m2) (es : Vec Ideal S11264 .f32) (j) : Cert.DwRefIdeal.Gen.k0_pay2 (F := Ideal) e es j = e j * es (ix1 (j 0)) := by
  pointwise [Cert.DwRefIdeal.Gen.k0_pay2]

/-- The whole result: the head's product, and on each row the scaled gradients of the tokens with that id. -/
def REF (g : Vec Ideal S22x512x32000 .fp8e5m2) (s : Vec Ideal S22x512x250 .f32) (x : Vec Ideal S22x512x2560 .fp8e4m3) (xs : Vec Ideal S22x512 .f32)
    (e : Vec Ideal S11264x2560 .fp8e5m2) (es : Vec Ideal S11264 .f32) (ids : Vec Ideal S11264 .i32) : Vec Ideal S32000x2560 .f32 := fun j =>
  Cert.DwRefIdeal.Gen.k0_pay1 (F := Ideal) g s x xs j
    + ∑ t : Fin 11264, if (ids (ix1 t) : BitVec 32).toInt = ((j 0).val : ℤ) then Cert.DwRefIdeal.Gen.k0_pay2 (F := Ideal) e es (ix2 t (j 1)) else 0

end Cert.DwIdeal.Value
-- ==== Proof.DwIdeal.Value.lean ====
/- The weight-gradient call's result as one formula of its arguments, for sorted ids. -/
module

public import proofs.«01_k».proof.Proof.DwMath
public import proofs.«01_k».proof.Proof.DwIdeal.Table

@[expose] public section

set_option maxRecDepth 16384

noncomputable section

open Idealize.ShloMosaic Idealize.ShloMosaic.TcCoe Idealize.SL.Sem
open Idealize.ShloMosaic.Pipeline (Dat)

namespace Cert.DwIdeal.Value

open Cert.DwIdeal Cert.DwIdeal.Gen

/-- The windows' block indices at every grid point. -/
theorem idx (a : (pcfg0 (F := Ideal)).Adm) : ∀ t : Fin grid0.N, ((cfg0 a).win 0).index t = ![t.val % 11, t.val / 11] ∧ ((cfg0 a).win 1).index t = ![t.val / 11, 0, t.val % 11]
    ∧ ((cfg0 a).win 2).index t = ![0, t.val % 11] ∧ ((cfg0 a).win 3).index t = ![t.val % 11, 0] ∧ ((cfg0 a).win 4).index t = ![0, 0]
    ∧ ((cfg0 a).win 5).index t = ![0, 0] ∧ ((cfg0 a).win 6).index t = ![t.val / 11, 0] ∧ (grid0.coords t 0).val = t.val / 11 :=
  (by decide +kernel : ∀ t : Fin grid0.N, cc0_transform_0 (grid0.coords t) = ![t.val % 11, t.val / 11] ∧ cc0_transform_1 (grid0.coords t) = ![t.val / 11, 0, t.val % 11]
    ∧ cc0_transform_2 (grid0.coords t) = ![0, t.val % 11] ∧ cc0_transform_3 (grid0.coords t) = ![t.val % 11, 0] ∧ cc0_transform_4 (grid0.coords t) = ![0, 0]
    ∧ cc0_transform_5 (grid0.coords t) = ![0, 0] ∧ cc0_transform_7 (grid0.coords t) = ![t.val / 11, 0] ∧ (grid0.coords t 0).val = t.val / 11)

/-- Each window's block at its coordinates. -/
theorem win0 (a : (pcfg0 (F := Ideal)).Adm) (c : Dev nD) (X : Buf (Elt Ideal) ((c : Thread nD τ).loc main_v0)) (t : Fin (cfg0 a).N) (k : Fin 1024) (p : Fin 1280) (r : Fin 11264) (v : Fin 32000)
    (h1 : (r : ℕ) = t.val % 11 * 1024 + k.val) (h2 : (v : ℕ) = t.val / 11 * 1280 + p.val) :
    (((cfg0 a).win 0).blk t).view.read (Elt Ideal) X (ix2 k p) = X (ix2 r v) := by
  blk_ext [idx a t]
theorem win1 (a : (pcfg0 (F := Ideal)).Adm) (c : Dev nD) (X : Buf (Elt Ideal) ((c : Thread nD τ).loc main_v3)) (t : Fin (cfg0 a).N) (q : Fin 10) (k : Fin 1024) (i : Fin 25) (r : Fin 11264)
    (h1 : (r : ℕ) = t.val % 11 * 1024 + k.val) (h2 : (i : ℕ) = t.val / 11) :
    (((cfg0 a).win 1).blk t).view.read (Elt Ideal) X (ix3 0 q k) = X (ix3 i q r) := by
  blk_ext [idx a t]
theorem win2 (a : (pcfg0 (F := Ideal)).Adm) (c : Dev nD) (X : Buf (Elt Ideal) ((c : Thread nD τ).loc main_v14)) (t : Fin (cfg0 a).N) (k : Fin 1024) (r : Fin 11264)
    (h1 : (r : ℕ) = t.val % 11 * 1024 + k.val) :
    (((cfg0 a).win 2).blk t).view.read (Elt Ideal) X (ix2 0 k) = X (ix2 0 r) := by
  blk_ext [idx a t]
theorem win3 (a : (pcfg0 (F := Ideal)).Adm) (c : Dev nD) (X : Buf (Elt Ideal) ((c : Thread nD τ).loc main_v1)) (t : Fin (cfg0 a).N) (k : Fin 1024) (d : Fin 2560) (r : Fin 11264) (d' : Fin 2560)
    (h1 : (r : ℕ) = t.val % 11 * 1024 + k.val) (h2 : (d' : ℕ) = d) :
    (((cfg0 a).win 3).blk t).view.read (Elt Ideal) X (ix2 k d) = X (ix2 r d') := by
  blk_ext [idx a t]
theorem win4 (a : (pcfg0 (F := Ideal)).Adm) (c : Dev nD) (X : Buf (Elt Ideal) ((c : Thread nD τ).loc main_v15)) (t : Fin (cfg0 a).N) (r : Fin 44) (k : Fin 256) :
    (((cfg0 a).win 4).blk t).view.read (Elt Ideal) X (ix2 r k) = X (ix2 r k) := by
  blk_ext [idx a t]
theorem win5 (a : (pcfg0 (F := Ideal)).Adm) (c : Dev nD) (X : Buf (Elt Ideal) ((c : Thread nD τ).loc main_v16)) (t : Fin (cfg0 a).N) (r : Fin 44) (k : Fin 256) :
    (((cfg0 a).win 5).blk t).view.read (Elt Ideal) X (ix2 r k) = X (ix2 r k) := by
  blk_ext [idx a t]
theorem win6 (a : (pcfg0 (F := Ideal)).Adm) (t : Fin (cfg0 a).N) (p : Fin 1280) (d : Fin 2560) (v : Fin 32000) (h : v.val = t.val / 11 * 1280 + p.val) :
    (((cfg0 a).win 6).blk t).view.emb (ix2 p d) = (ix2 v d : S32000x2560.Idx) := by
  funext x
  refine Fin.ext ?_
  have hi := congrFun (idx a t).2.2.2.2.2.2.1
  match x with
  | ⟨0, _⟩ =>
    show ((cfg0 a).win 6).index t ⟨0, (by decide : 0 < 2)⟩ * 1280 + 1 * p.val = v.val
    rw [hi, h]
    show t.val / 11 * 1280 + 1 * p.val = _
    omega
  | ⟨1, _⟩ =>
    show ((cfg0 a).win 6).index t ⟨1, (by decide : 1 < 2)⟩ * 2560 + 1 * d.val = d.val
    rw [hi]
    show 0 * 2560 + 1 * d.val = _
    omega

theorem rows (a : (pcfg0 (F := Ideal)).Adm) : ((cfg0 a).win 6).nblk ⟨0, (by decide : 0 < 2)⟩ = 25 := by
  have h1 : ((cfg0 a).win 6).size ⟨0, (by decide : 0 < 2)⟩ = 1280 := rfl
  have h2 : ((cfg0 a).win 6).shape.size ⟨0, (by decide : 0 < 2)⟩ = 32000 := rfl
  unfold Pipeline.Window.nblk
  rw [h1, h2]
theorem cols (a : (pcfg0 (F := Ideal)).Adm) : ((cfg0 a).win 6).nblk ⟨1, (by decide : 1 < 2)⟩ = 1 := by
  have h1 : ((cfg0 a).win 6).size ⟨1, (by decide : 1 < 2)⟩ = 2560 := rfl
  have h2 : ((cfg0 a).win 6).shape.size ⟨1, (by decide : 1 < 2)⟩ = 2560 := rfl
  unfold Pipeline.Window.nblk
  rw [h1, h2]

/-- The written-back blocks cover the result. -/
theorem covers (a : (pcfg0 (F := Ideal)).Adm) : ((cfg0 a).win 6).Covers := by
  refine ⟨fun x => ?_, fun β => ?_⟩
  · match x with
    | ⟨0, _⟩ => exact (by decide : 0 < 1280)
    | ⟨1, _⟩ => exact (by decide : 0 < 2560)
  · have h0 : (β ⟨0, (by decide : 0 < 2)⟩).val < 25 :=
      lt_of_lt_of_eq (β ⟨0, (by decide : 0 < 2)⟩).isLt (rows a)
    have h1 : (β ⟨1, (by decide : 1 < 2)⟩).val < 1 :=
      lt_of_lt_of_eq (β ⟨1, (by decide : 1 < 2)⟩).isLt (cols a)
    have ht : (β ⟨0, (by decide : 0 < 2)⟩).val * 11 + 10 < grid0.N := lt_of_lt_of_eq (by omega : _ < 275) (by decide)
    refine ⟨⟨_, ht⟩, (flush0_6 a _).2 (by show ((β ⟨0, _⟩).val * 11 + 10) % 11 = 10; omega), fun x => ⟨?_, Or.inl rfl⟩⟩
    have hi := congrFun (idx a ⟨_, ht⟩).2.2.2.2.2.2.1
    match x with
    | ⟨0, _⟩ =>
      refine (hi ⟨0, (by decide : 0 < 2)⟩).trans ?_
      show ((β ⟨0, _⟩).val * 11 + 10) / 11 = (β ⟨0, _⟩).val
      omega
    | ⟨1, _⟩ =>
      refine (hi ⟨1, (by decide : 1 < 2)⟩).trans ?_
      show 0 = (β ⟨1, _⟩).val
      omega

variable (m : (ℓ : Loc nD τ sig) → Buf (Elt Ideal) ℓ)

/-- The blocks of the call's inputs at a point: logit gradients, their scales, the tokens' scales, activations, ids, the ids' scales. -/
def B0 (c : Dev nD) (t : Fin (cfgM m (ok m)).N) : Vec Ideal S1024x1280 .fp8e5m2 := iblk m (ok m) c 0 t
def B1 (c : Dev nD) (t : Fin (cfgM m (ok m)).N) : Vec Ideal S1x10x1024 .f32 := iblk m (ok m) c 1 t
def B2 (c : Dev nD) (t : Fin (cfgM m (ok m)).N) : Vec Ideal S1x1024 .f32 := iblk m (ok m) c 2 t
def B3 (c : Dev nD) (t : Fin (cfgM m (ok m)).N) : Vec Ideal S1024x2560 .fp8e4m3 := iblk m (ok m) c 3 t
def B4 (c : Dev nD) (t : Fin (cfgM m (ok m)).N) : Vec Ideal S44x256 .i32 := iblk m (ok m) c 4 t
def B5 (c : Dev nD) (t : Fin (cfgM m (ok m)).N) : Vec Ideal S44x256 .f32 := iblk m (ok m) c 5 t

/-- The same, read off the arguments. -/
theorem blk0 (c : Dev nD) (t : Fin (cfgM m (ok m)).N) (k : Fin 1024) (p : Fin 1280) (r : Fin 11264) (v : Fin 32000)
    (h1 : (r : ℕ) = t.val % 11 * 1024 + k.val) (h2 : (v : ℕ) = t.val / 11 * 1280 + p.val) :
    B0 m c t (ix2 k p) = m ((c : Thread nD τ).loc main_arg0) (ix3 ⟨r / 512, by omega⟩ ⟨r % 512, by omega⟩ v) := by
  refine (win0 (adm m (ok m)) c (V m c main_v0) t k p r v h1 h2).trans ?_
  entry_read
  pointwise
theorem blk1 (c : Dev nD) (t : Fin (cfgM m (ok m)).N) (q : Fin 10) (k : Fin 1024) (r : Fin 11264) (u : Fin 250)
    (h1 : (r : ℕ) = t.val % 11 * 1024 + k.val) (h2 : (u : ℕ) = t.val / 11 * 10 + q.val) :
    B1 m c t (ix3 0 q k) = m ((c : Thread nD τ).loc main_arg1) (ix3 ⟨r / 512, by omega⟩ ⟨r % 512, by omega⟩ u) := by
  have hu := u.isLt
  refine (win1 (adm m (ok m)) c (V m c main_v3) t q k ⟨t.val / 11, by omega⟩ r h1 rfl).trans ?_
  entry_read
  pointwise
  refine congrArg (m _) (funext fun x => Fin.ext ?_)
  match x with
  | ⟨0, _⟩ => rfl
  | ⟨1, _⟩ => rfl
  | ⟨2, _⟩ => exact h2.symm
theorem blk2 (c : Dev nD) (t : Fin (cfgM m (ok m)).N) (k : Fin 1024) (r : Fin 11264)
    (h1 : (r : ℕ) = t.val % 11 * 1024 + k.val) :
    B2 m c t (ix2 0 k) = m ((c : Thread nD τ).loc main_arg3) (ix2 ⟨r / 512, by omega⟩ ⟨r % 512, by omega⟩) := by
  refine (win2 (adm m (ok m)) c (V m c main_v14) t k r h1).trans ?_
  entry_read
  pointwise
theorem blk3 (c : Dev nD) (t : Fin (cfgM m (ok m)).N) (k : Fin 1024) (d : Fin 2560) (r : Fin 11264) (d' : Fin 2560)
    (h1 : (r : ℕ) = t.val % 11 * 1024 + k.val) (h2 : (d' : ℕ) = d) :
    B3 m c t (ix2 k d) = m ((c : Thread nD τ).loc main_arg2) (ix3 ⟨r / 512, by omega⟩ ⟨r % 512, by omega⟩ d') := by
  refine (win3 (adm m (ok m)) c (V m c main_v1) t k d r d' h1 h2).trans ?_
  entry_read
  pointwise
theorem blk4 (c : Dev nD) (t : Fin (cfgM m (ok m)).N) (r : Fin 44) (k : Fin 256) (u : Fin 11264) (h : u.val = r.val * 256 + k.val) :
    B4 m c t (ix2 r k) = m ((c : Thread nD τ).loc main_arg6) (ix1 u) := by
  refine (win4 (adm m (ok m)) c (V m c main_v15) t r k).trans ?_
  entry_read
  pointwise
  exact congrArg (m _) (funext fun x => Fin.ext (match x with | ⟨0, _⟩ => h.symm))
theorem blk5 (c : Dev nD) (t : Fin (cfgM m (ok m)).N) (r : Fin 44) (k : Fin 256) (u : Fin 11264) (h : u.val = r.val * 256 + k.val) :
    B5 m c t (ix2 r k) = m ((c : Thread nD τ).loc main_arg5) (ix1 u) := by
  refine (win5 (adm m (ok m)) c (V m c main_v16) t r k).trans ?_
  entry_read
  pointwise
  exact congrArg (m _) (funext fun x => Fin.ext (match x with | ⟨0, _⟩ => h.symm))

theorem scaled_at (x0 : Vec Ideal S1024x1280 .fp8e5m2) (x1 : Vec Ideal S1x10x1024 .f32) (x2 : Vec Ideal S1x1024 .f32) (p : Fin 1280) (k : Fin 1024) :
    scaled x0 x1 x2 (ix2 p k) = x0 (ix2 k p) * (x1 (ix3 0 ⟨p.val / 128, by omega⟩ k) * x2 (ix2 0 k)) := rfl

/-- The two orders in which kernel and reference multiply the four factors. -/
theorem regroup (g s xs x : EReal) : g * (s * xs) * x = g * s * (x * xs) := by ac_rfl

/-- One term of the kernel's sum is one term of the reference's. -/
theorem point (c : Dev nD) (t : Fin (cfgM m (ok m)).N) (p : Fin 1280) (k : Fin 1024) (d : Fin 2560) (r : Fin 11264) (v : Fin 32000) (d' : Fin 2560)
    (hr : (r : ℕ) = t.val % 11 * 1024 + k.val) (hv : (v : ℕ) = t.val / 11 * 1280 + p.val) (hd : (d' : ℕ) = d) :
    scaled (B0 m c t) (B1 m c t) (B2 m c t) (ix2 p k) * B3 m c t (ix2 k d)
      = (show FVec Ideal S22x512x32000 .fp8e5m2 from m ((c : Thread nD τ).loc main_arg0)) (ix3 ⟨r / 512, by omega⟩ ⟨r % 512, by omega⟩ v)
          * (show FVec Ideal S22x512x250 .f32 from m ((c : Thread nD τ).loc main_arg1)) (ix3 ⟨r / 512, by omega⟩ ⟨r % 512, by omega⟩ ⟨v / 128, by omega⟩)
          * ((show FVec Ideal S22x512x2560 .fp8e4m3 from m ((c : Thread nD τ).loc main_arg2)) (ix3 ⟨r / 512, by omega⟩ ⟨r % 512, by omega⟩ d')
            * (show FVec Ideal S22x512 .f32 from m ((c : Thread nD τ).loc main_arg3)) (ix2 ⟨r / 512, by omega⟩ ⟨r % 512, by omega⟩)) := by
  refine Eq.trans ?_ (regroup _ _ _ _)
  rw [scaled_at]
  refine congrArg₂ (fun a b : EReal => a * b) (congrArg₂ (fun a b : EReal => a * b) ?_ (congrArg₂ (fun a b : EReal => a * b) ?_ ?_)) ?_
  · exact blk0 m c t _ _ _ _ hr hv
  · exact blk1 m c t _ _ _ _ hr (by simp only [hv]; omega)
  · exact blk2 m c t _ _ hr
  · exact blk3 m c t _ _ _ _ hr hd

/-- What the first point of an output block leaves: the looked-up rows plus one product. -/
theorem stepA (c : Dev nD) (t : Fin (cfgM m (ok m)).N) (h : t.val % 11 = 0) : outsAt0 m (ok m) (hyps m) c t.val t.isLt =
    k0_pay4 (accum (BitVec.ofNat 32 (t.val / 11)) (B4 m c t) (B5 m c t) (m ((c : Thread nD τ).loc main_arg4)) (cnt m c (t.val / 11) / 256)
        (k0_pay5 (F := Ideal)) ((cnt m c (t.val / 11 + 1) + 255) / 256 - cnt m c (t.val / 11) / 256))
      (scaled (B0 m c t) (B1 m c t) (B2 m c t)) (B3 m c t) := by
  obtain rfl : c = 0 := Subsingleton.elim _ _
  have hi : (grid0.coords t 0).val = t.val / 11 := (idx (adm m (ok m)) t).2.2.2.2.2.2.2
  have hc : cond0_0 (grid0.coords t) := (hcond0_0 t).mpr h
  refine (outsAt0_A m (ok m) (hyps m) 0 t h).trans ?_
  refine (out_A _ _ _ _ _ _ _ _ _ _ _ _ _ _ _ _ _ _ _ _ hc (B0 m 0 t) (B1 m 0 t) (B2 m 0 t) (B3 m 0 t) (B4 m 0 t) (B5 m 0 t) _ _ _ (cnt m 0 (t.val / 11)) (cnt m 0 (t.val / 11 + 1)) (cnt_le m 0 _) (cnt_le m 0 _)
    ((word1 m _ hc _).trans (by rw [hi])) ((word2 m _ hc _).trans (by rw [hi]))).trans ?_
  rw [hi]
  rfl

/-- What a later point leaves, over what the point before it left. -/
theorem stepB (c : Dev nD) (t : Fin (cfgM m (ok m)).N) (h : ¬t.val % 11 = 0) : outsAt0 m (ok m) (hyps m) c t.val t.isLt =
    k0_pay4 (outsAt0 m (ok m) (hyps m) c (t.val - 1) (Nat.lt_of_le_of_lt (Nat.sub_le _ _) t.isLt))
      (scaled (B0 m c t) (B1 m c t) (B2 m c t)) (B3 m c t) := by
  exact (outsAt0_B m (ok m) (hyps m) c t h).trans (out_B _ _ _ _ _ _ _ _ _ _ _ _ _ _ _ _ _ _ _ _ _ (B0 m c t) (B1 m c t) (B2 m c t) (B3 m c t) (B4 m c t) (B5 m c t) _ _ _)

end Cert.DwIdeal.Value
-- ==== Proof.DwIdeal.Final.lean ====
/- The weight-gradient call's result array after the run is the reference's formula, for sorted ids. -/
module

public import proofs.«01_k».proof.Proof.DwIdeal.Value
public import Idealize.ShloMosaic.Lib.Pipeline.Value
public import proofs.«01_k».proof.Pre_ids_sorted

@[expose] public section

set_option maxRecDepth 16384

noncomputable section

open Idealize.ShloMosaic Idealize.ShloMosaic.TcCoe Idealize.SL.Sem
open Idealize.ShloMosaic.Pipeline (Dat)

namespace Cert.DwIdeal.Value

open Cert.DwIdeal Cert.DwIdeal.Gen

variable (m : (ℓ : Loc nD τ sig) → Buf (Elt Ideal) ℓ)

/-- What the tokens of vocabulary row `v` add to its column `d`. -/
def found (c : Dev nD) (v : ℕ) (d : Fin 2560) : EReal :=
  ∑ t : Fin 11264, if ((show Vec Ideal S11264 .i32 from m ((c : Thread nD τ).loc main_arg6)) (ix1 t) : BitVec 32).toInt = (v : ℤ)
    then (show FVec Ideal S11264 .f32 from m ((c : Thread nD τ).loc main_arg5)) (ix1 t) * (show FVec Ideal S11264x2560 .fp8e5m2 from m ((c : Thread nD τ).loc main_arg4)) (ix2 t d) else 0

/-- What point `t` adds to its output block: one product, the first point of a block also the looked-up rows. -/
def term (c : Dev nD) (t : Fin (cfgM m (ok m)).N) (j : S1280x2560.Idx) : EReal :=
  (if t.val % 11 = 0 then found m c (t.val / 11 * 1280 + (j 0).val) (j 1) else 0)
    + ∑ k : Fin 1024, scaled (B0 m c t) (B1 m c t) (B2 m c t) (ix2 (j 0) k) * B3 m c t (ix2 k (j 1))

theorem pts (t : Fin (cfgM m (ok m)).N) : t.val < 275 := t.isLt

theorem first (c : Dev nD) (hs : ∀ a b : Fin 11264, a ≤ b → ((show Vec Ideal S11264 .i32 from m ((c : Thread nD τ).loc main_arg6)) (ix1 a) : BitVec 32).toInt
      ≤ ((show Vec Ideal S11264 .i32 from m ((c : Thread nD τ).loc main_arg6)) (ix1 b) : BitVec 32).toInt)
    (t : Fin (cfgM m (ok m)).N) (h : t.val % 11 = 0) (j : S1280x2560.Idx) : outsAt0 m (ok m) (hyps m) c t.val t.isLt j = 0 + term m c t j := by
  have ht := pts m t
  have hb := (j 0).isLt
  have h1 := cnt_le m c (t.val / 11)
  have h2 := cnt_le m c (t.val / 11 + 1)
  refine (congrFun (stepA m c t h) j).trans ((accumulate _ _ _ j).trans (Eq.trans ?_ (zero_add _).symm))
  unfold term
  rw [if_pos h]
  refine congrArg (fun y : EReal => y + _) ?_
  refine (accum_at (m ((c : Thread nD τ).loc main_arg6)) (m ((c : Thread nD τ).loc main_arg5)) (m ((c : Thread nD τ).loc main_arg4)) _ (B4 m c t) (B5 m c t)
    (fun r k u hu => blk4 m c t r k u hu) (fun r k u hu => blk5 m c t r k u hu) _ _ j _ (by omega)).trans ?_
  rw [zero_fill, zero_add]
  exact visited (m ((c : Thread nD τ).loc main_arg6)) (m ((c : Thread nD τ).loc main_arg5)) (m ((c : Thread nD τ).loc main_arg4)) hs (t.val / 11) (j 0).val
    (by omega) hb (j 1) _ _ rfl rfl

theorem later (c : Dev nD) (t : Fin (cfgM m (ok m)).N) (h : ¬t.val % 11 = 0) (j : S1280x2560.Idx) : outsAt0 m (ok m) (hyps m) c t.val t.isLt j =
    outsAt0 m (ok m) (hyps m) c (t.val - 1) (Nat.lt_of_le_of_lt (Nat.sub_le _ _) t.isLt) j + term m c t j := by
  refine (congrFun (stepB m c t h) j).trans ((accumulate _ _ _ j).trans ?_)
  unfold term
  rw [if_neg h, zero_add]

/-- The points of one output block together add the looked-up rows and the whole product. -/
theorem total (c : Dev nD) (t : Fin (cfgM m (ok m)).N) (h : t.val % 11 = 10) (p : Fin 1280) (d : Fin 2560) (v : Fin 32000) (hv : v.val = t.val / 11 * 1280 + p.val) :
    ∑ s : Fin 11, term m c ⟨11 * (t.val / 11) + s.val, Pipeline.run_point_lt_of_flush t h s⟩ (ix2 p d)
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (ix2 v d) := by
  unfold term REF
  rw [Finset.sum_add_distrib, add_comm]
  refine congrArg₂ (fun a b : EReal => a + b) ?_ ?_
  · refine Eq.trans ?_ (head_at _ _ _ _ _).symm
    refine Fin.sum_mul_add_congr fun s k hl => ?_
    have hs := s.isLt
    have q0 : (11 * (t.val / 11) + s.val) / 11 = t.val / 11 := by omega
    have q1 : (11 * (t.val / 11) + s.val) % 11 = s.val := by omega
    exact point m c ⟨_, Pipeline.run_point_lt_of_flush t h s⟩ p k d _ v d (by show s.val * 1024 + k.val = (11 * (t.val / 11) + s.val) % 11 * 1024 + k.val; rw [q1])
      (by show v.val = (11 * (t.val / 11) + s.val) / 11 * 1280 + p.val; rw [q0, hv]) rfl
  · refine (Finset.sum_eq_single (0 : Fin 11) (fun s _ hs => if_neg ?_) (fun hn => absurd (Finset.mem_univ _) hn)).trans ?_
    · have h1 := s.isLt
      have h2 : s.val ≠ 0 := fun h0 => hs (Fin.ext h0)
      show ¬(11 * (t.val / 11) + s.val) % 11 = 0
      omega
    · have q0 : (11 * (t.val / 11) + 0) / 11 = t.val / 11 := by omega
      refine (if_pos (by show (11 * (t.val / 11) + 0) % 11 = 0; omega)).trans ?_
      show found m c ((11 * (t.val / 11) + 0) / 11 * 1280 + p.val) d = _
      rw [q0, ← hv]
      refine Finset.sum_congr rfl fun u _ => ?_
      refine if_congr Iff.rfl ?_ rfl
      exact (mul_comm _ _).trans (emb_at _ _ _).symm

/-- The result array after the run. -/
theorem final (c : Dev nD) (hs : ∀ a b : Fin 11264, a ≤ b → ((show Vec Ideal S11264 .i32 from m ((c : Thread nD τ).loc main_arg6)) (ix1 a) : BitVec 32).toInt
      ≤ ((show Vec Ideal S11264 .i32 from m ((c : Thread nD τ).loc main_arg6)) (ix1 b) : BitVec 32).toInt) :
    (dats m (ok m) (hyps m) 0 c).arrAt 6 (cfgM m (ok m)).N
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  refine (dats m (ok m) (hyps m) 0 c).arrAt_eq_of_covers 6 _ (covers (adm m (ok m))) fun t hf y => ?_
  have h := (flush0_6 (adm m (ok m)) t).mp hf
  have ht := pts m t
  obtain ⟨p, d, rfl⟩ : ∃ (p : Fin 1280) (d : Fin 2560), y = ix2 p d := ⟨(show S1280x2560.Idx from y) 0, (show S1280x2560.Idx from y) 1, funext fun x => match x with | ⟨0, _⟩ => rfl | ⟨1, _⟩ => rfl⟩
  have hp := p.isLt
  refine (congrFun (after0_6 m (ok m) (hyps m) c t) (ix2 p d)).trans ?_
  refine (Pipeline.eq_sum_fin_of_reset_step_apply_of_flush (fun n hn => outsAt0 m (ok m) (hyps m) c n hn) 11 (fun _ => (0 : EReal)) (term m c)
    (first m c hs) (later m c) t h (ix2 p d)).trans ((zero_add _).trans ?_)
  refine (total m c t h p d ⟨t.val / 11 * 1280 + p.val, by omega⟩ rfl).trans ?_
  exact congrArg (REF _ _ _ _ _ _ _) (win6 (adm m (ok m)) t p d _ rfl).symm

/-- The whole run, for sorted ids: the result is the formula of the arguments, and they end unchanged. -/
theorem run (ρ : Dev nD → PrngReg) (hs : ∀ (c : Dev nD) (a b : Fin 11264), a ≤ b → ((show Vec Ideal S11264 .i32 from m ((c : Thread nD τ).loc main_arg6)) (ix1 a) : BitVec 32).toInt
      ≤ ((show Vec Ideal S11264 .i32 from m ((c : Thread nD τ).loc main_arg6)) (ix1 b) : BitVec 32).toInt) :
    θ_run defs (onTc (τ := τ) (main (F := Ideal))) ⟨m, fun _ => 0, ρ⟩ fun r => ∀ c : Dev nD,
      r.2.mem ((c.tc : Thread nD τ).loc main_v17)
        = REF (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 6).trans (final m c (hs c)), h.2 c⟩)
    (θ_run_and (run_main m ρ (ok m) (hyps m)) (unchanged m ρ (ok m) (hyps m)))

/-- Adjacent ids in order make all ids sorted. -/
theorem sorted_of_adjacent (ids : Vec Ideal S11264 .i32)
    (h : ∀ a : Fin 11263, (ids (ix1 ⟨a.val, by omega⟩) : BitVec 32).toInt ≤ (ids (ix1 ⟨a.val + 1, by omega⟩) : BitVec 32).toInt) (a b : Fin 11264) (hab : a ≤ b) :
    (ids (ix1 a) : BitVec 32).toInt ≤ (ids (ix1 b) : BitVec 32).toInt := by
  have key : ∀ (n : ℕ) (hn : a.val + n < 11264), (ids (ix1 a) : BitVec 32).toInt ≤ (ids (ix1 ⟨a.val + n, hn⟩) : BitVec 32).toInt := by
    intro n
    induction n with
    | zero => intro _; exact le_refl _
    | succ n ih => intro hn; exact (ih (by omega)).trans (h ⟨a.val + n, by omega⟩)
  have hb : b = ⟨a.val + (b.val - a.val), by omega⟩ := Fin.ext (by have : a.val ≤ b.val := hab; show b.val = a.val + (b.val - a.val); omega)
  rw [hb]
  exact key _ _

/-- The precondition read: it holds exactly of sorted ids. -/
theorem sorted_of_pre [Cert.Pre_ids_sorted.Facts] (g : Vec Ideal S22x512x32000 .fp8e5m2) (s : Vec Ideal S22x512x250 .f32) (x : Vec Ideal S22x512x2560 .fp8e4m3) (xs : Vec Ideal S22x512 .f32)
    (e : Vec Ideal S11264x2560 .fp8e5m2) (es : Vec Ideal S11264 .f32) (ids : Vec Ideal S11264 .i32)
    (h : Cert.Pre_ids_sorted.fn (F := Ideal) g s x xs e es ids = fun _ => 1) (a b : Fin 11264) (hab : a ≤ b) :
    (ids (ix1 a) : BitVec 32).toInt ≤ (ids (ix1 b) : BitVec 32).toInt := by
  refine sorted_of_adjacent ids (fun a => ?_) a b hab
  have h1 : BitVec.ofBool (decide ((ids (ix1 ⟨a.val, by omega⟩) : BitVec 32).toInt ≤ (ids (ix1 ⟨a.val + 1, by omega⟩) : BitVec 32).toInt)) = 1#1 := by
    refine Eq.trans ?_ (congrFun h (ix1 a))
    pointwise [Cert.Pre_ids_sorted.fn]
    exact congrArg (fun u : Fin 11264 => IntOp.cmpi .sle (ids (ix1 ⟨a.val, by omega⟩) : BitVec 32) (ids (ix1 u) : BitVec 32)) (Fin.ext (Nat.add_comm a.val 1))
  by_contra hn
  rw [decide_eq_false hn] at h1
  exact absurd h1 (by decide)

end Cert.DwIdeal.Value

end
-- ==== Proof.DwRefIdeal.Value.lean ====
/- The weight-gradient reference's result as one formula of its arguments. -/
module

public import proofs.«01_k».proof.Proof.DwMath
public import proofs.«01_k».proof.Proof.Gen.DwRefIdeal.Frame
public import Idealize.ShloMosaic.Lib.Pipeline.Value
public import Idealize.ShloMosaic.Lib.Routing.OpsPair
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwRefIdeal.Value

open Cert.DwRefIdeal Cert.DwRefIdeal.Gen

/-- Entry `(t, e)` of the scattered rows lands at `(v, d)` exactly when token `t`'s id, read signed, is `v` and `e` is `d`. -/
theorem lands (idx : IVec S11264x1 32) (t : Fin 11264) (e d : Fin 2560) (v : Fin 32000) :
    scatter_S32000x2560_S11264x1_S11264x2560_1_0_0_1.resultIdx? (ValueIdx.ix2 t e) idx = some (ValueIdx.ix2 v d)
      ↔ (idx (ValueIdx.ix2 t (0 : Fin 1))).toInt = (v.val : ℤ) ∧ e = d := by
  have hs0 : scatter_S32000x2560_S11264x1_S11264x2560_1_0_0_1.start (ValueIdx.ix2 t e) idx 0 = (idx (ValueIdx.ix2 t (0 : Fin 1))).toInt := by
    unfold ScatterDims.start
    rw [dif_pos (by decide)]
    refine congrArg (fun y => (idx y).toInt) (funext fun b => ?_)
    match b with
    | ⟨0, _⟩ => rfl
    | ⟨1, _⟩ => exact Subsingleton.elim (α := Fin 1) _ _
  have hs1 : scatter_S32000x2560_S11264x1_S11264x2560_1_0_0_1.start (ValueIdx.ix2 t e) idx 1 = 0 := by
    unfold ScatterDims.start
    rw [dif_neg (by decide)]
  have hw0 : scatter_S32000x2560_S11264x1_S11264x2560_1_0_0_1.window (ValueIdx.ix2 t e) 0 = 0 := by
    unfold ScatterDims.window
    rw [dif_neg (by decide)]
  have hw1 : scatter_S32000x2560_S11264x1_S11264x2560_1_0_0_1.window (ValueIdx.ix2 t e) 1 = e.val := by
    unfold ScatterDims.window
    rw [dif_pos (by decide)]
    rfl
  refine (Routing.resultIdx?_ix2 (R := 32000) (C := 2560) scatter_S32000x2560_S11264x1_S11264x2560_1_0_0_1 (ValueIdx.ix2 t e) idx v d).trans ?_
  rw [hs0, hs1, hw0, hw1, Fin.ext_iff]
  omega

/-- The scatter onto zeros, read at an entry: the sum over the tokens with that id. -/
theorem scatter_at (z : Vec Ideal S32000x2560 .f32) (hz : ∀ j, z j = 0) (ids : Vec Ideal S11264 .i32) (idx : Vec Ideal S11264x1 .i32)
    (hidx : ∀ t : Fin 11264, idx (ix2 t 0) = ids (ix1 t)) (u : Vec Ideal S11264x2560 .f32) (v : Fin 32000) (d : Fin 2560) :
    Host.scatterAdd (F := Ideal) (φ := .f32) scatter_S32000x2560_S11264x1_S11264x2560_1_0_0_1 z idx u (ix2 v d)
      = ∑ t : Fin 11264, if (ids (ix1 t) : BitVec 32).toInt = (v.val : ℤ) then u (ix2 t d) else (0 : EReal) := by
  show z (ix2 v d) + ∑ j ∈ Finset.univ.filter (fun j => scatter_S32000x2560_S11264x1_S11264x2560_1_0_0_1.resultIdx? j idx = some (ix2 v d)), u j = _
  rw [hz, ← Finset.sum_filter]
  refine (zero_add _).trans ?_
  have e2 : ∀ {a b : ℕ} (p : Fin a) (q : Fin b), (ix2 p q : (Shape.mk 2 ![a, b]).Idx) = ValueIdx.ix2 p q := fun p q => funext fun x => match x with | ⟨0, _⟩ => rfl | ⟨1, _⟩ => rfl
  have key : ∀ j : S11264x2560.Idx, scatter_S32000x2560_S11264x1_S11264x2560_1_0_0_1.resultIdx? j idx = some (ix2 v d)
      ↔ (ids (ix1 (j 0)) : BitVec 32).toInt = (v.val : ℤ) ∧ j 1 = d := fun j => by
    obtain ⟨t, e, rfl⟩ : ∃ (t : Fin 11264) (e : Fin 2560), j = ValueIdx.ix2 t e := ⟨j 0, j 1, funext fun x => match x with | ⟨0, _⟩ => rfl | ⟨1, _⟩ => rfl⟩
    have h1 : idx (ValueIdx.ix2 t (0 : Fin 1)) = ids (ix1 t) := (congrArg idx (e2 t (0 : Fin 1)).symm).trans (hidx t)
    have h2 : (ValueIdx.ix2 v d : S32000x2560.Idx) = ix2 v d := (e2 v d).symm
    have h := lands idx t e d v
    rw [h1, h2] at h
    exact h
  refine Finset.sum_nbij' (fun j : S11264x2560.Idx => (j 0 : Fin 11264)) (fun t => (ix2 t d : S11264x2560.Idx)) ?_ ?_ ?_ ?_ ?_
  · intro j hj
    exact Finset.mem_filter.mpr ⟨Finset.mem_univ _, ((key j).mp (Finset.mem_filter.mp hj).2).1⟩
  · intro t ht
    exact Finset.mem_filter.mpr ⟨Finset.mem_univ _, (key _).mpr ⟨(Finset.mem_filter.mp ht).2, rfl⟩⟩
  · intro j hj
    have h := ((key j).mp (Finset.mem_filter.mp hj).2).2
    exact funext fun x => match x with | ⟨0, _⟩ => rfl | ⟨1, _⟩ => h.symm
  · intro t ht
    rfl
  · intro j hj
    have h := ((key j).mp (Finset.mem_filter.mp hj).2).2
    exact congrArg u (funext fun x => match x with | ⟨0, _⟩ => rfl | ⟨1, _⟩ => h)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Every window's block is its whole array. -/
theorem idx : ∀ t : Fin cfg0.N, (cfg0.win 0).index t = ![0, 0, 0] ∧ (cfg0.win 1).index t = ![0, 0, 0] ∧ (cfg0.win 2).index t = ![0, 0, 0]
    ∧ (cfg0.win 3).index t = ![0, 0] ∧ (cfg0.win 4).index t = ![0, 0] ∧ (cfg0.win 5).index t = ![0] ∧ (cfg0.win 6).index t = ![0, 0] ∧ (cfg0.win 7).index t = ![0, 0] :=
  (by decide +kernel : ∀ t : Fin grid0.N, _)

theorem blk0 (c : Dev nD) (t : Fin cfg0.N) : iblk m c 0 t = m ((c : Thread nD τ).loc main_arg0) := by
  funext j; blk_ext [iblk, V, idx t]
theorem blk1 (c : Dev nD) (t : Fin cfg0.N) : iblk m c 1 t = m ((c : Thread nD τ).loc main_arg1) := by
  funext j; blk_ext [iblk, V, idx t]
theorem blk2 (c : Dev nD) (t : Fin cfg0.N) : iblk m c 2 t = m ((c : Thread nD τ).loc main_arg2) := by
  funext j; blk_ext [iblk, V, idx t]
theorem blk3 (c : Dev nD) (t : Fin cfg0.N) : iblk m c 3 t = m ((c : Thread nD τ).loc main_arg3) := by
  funext j; blk_ext [iblk, V, idx t]
theorem blk4 (c : Dev nD) (t : Fin cfg0.N) : iblk m c 4 t = m ((c : Thread nD τ).loc main_arg4) := by
  funext j; blk_ext [iblk, V, idx t]
theorem blk5 (c : Dev nD) (t : Fin cfg0.N) : iblk m c 5 t = m ((c : Thread nD τ).loc main_arg5) := by
  funext j; blk_ext [iblk, V, idx t]

/-- The two arrays the call leaves: the scaled embedding gradients and the head's product. -/
theorem rowsOut (c : Dev nD) : (dats m 0 c).arrAt 6 (cfgs 0).N
    = k0_pay2 (F := Ideal) (m ((c : Thread nD τ).loc main_arg4)) (m ((c : Thread nD τ).loc main_arg5)) := by
  refine (dats m 0 c).arrAt_eq_of_covers 6 _ (by decide +kernel) fun t hf y => ?_
  refine (congrFun (after0_6 m c t) y).trans ?_
  rw [blk0, blk1, blk2, blk3, blk4, blk5]
  unfold out0_6
  rw [View.canon_unit_zero hz2, View.ld_unit_zero (S := S11264x2560) hz2, View.ld_unit_zero (S := S11264) hz1]
  refine congrArg _ ?_
  blk_ext [idx t]
theorem headOut (c : Dev nD) : (dats m 0 c).arrAt 7 (cfgs 0).N
    = k0_pay1 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  refine (congrFun (after0_7 m c t) y).trans ?_
  rw [blk0, blk1, blk2, blk3, blk4, blk5]
  unfold out0_7
  rw [View.canon_unit_zero hz2, View.ld_unit_zero (S := S22x512x32000) hz3, View.ld_unit_zero (S := S22x512x250) hz3, View.ld_unit_zero (S := S22x512x2560) hz3, View.ld_unit_zero (S := S22x512) hz2]
  refine congrArg _ ?_
  blk_ext [idx t]

/-- The result buffer after the run. -/
theorem tail (c : Dev nD) : Pipeline.afterTail₀ cfgs (dats m) 0 (V0 m) [hostOps1] c main_v4
    = Cert.DwIdeal.Value.REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  have h0 : Pipeline.withArrays spec0 c (V0 m c) (fun w => (dats m 0 c).arrAt w (cfgs 0).N) (Proc.devRef .tc main_v0_0) = (dats m 0 c).arrAt 6 (cfgs 0).N :=
    Pipeline.withArrays_arr spec0 launch0.win.arr_inj c (V0 m c) (fun w => (dats m 0 c).arrAt w (cfgs 0).N) 6
  have h1 : Pipeline.withArrays spec0 c (V0 m c) (fun w => (dats m 0 c).arrAt w (cfgs 0).N) (Proc.devRef .tc main_v0_1) = (dats m 0 c).arrAt 7 (cfgs 0).N :=
    Pipeline.withArrays_arr spec0 launch0.win.arr_inj c (V0 m c) (fun w => (dats m 0 c).arrAt w (cfgs 0).N) 7
  have h6 : Pipeline.withArrays spec0 c (V0 m c) (fun w => (dats m 0 c).arrAt w (cfgs 0).N) (Proc.devRef .tc main_arg6) = m ((c : Thread nD τ).loc main_arg6) :=
    Pipeline.withArrays_of_ne spec0 c (V0 m c) _ main_arg6 (by exact (by decide : ∀ w, Pipeline.arrRef spec0 w ≠ main_arg6))
  show StableHlo.after hostOps1 (Pipeline.withArrays spec0 c (V0 m c) (fun w => (dats m 0 c).arrAt w (cfgs 0).N)) (Proc.devRef .tc main_v4) = _
  generalize Pipeline.withArrays spec0 c (V0 m c) (fun w => (dats m 0 c).arrAt w (cfgs 0).N) = W at h0 h1 h6 ⊢
  entry_read
  rw [h0, h1, h6, rowsOut, headOut]
  funext j
  obtain ⟨v, d, rfl⟩ : ∃ (v : Fin 32000) (d : Fin 2560), j = ix2 v d := ⟨j 0, j 1, funext fun x => match x with | ⟨0, _⟩ => rfl | ⟨1, _⟩ => rfl⟩
  refine congrArg (fun y : EReal => Cert.DwRefIdeal.Gen.k0_pay1 (F := Ideal) (m ((c : Thread nD τ).loc main_arg0)) (m ((c : Thread nD τ).loc main_arg1))
    (m ((c : Thread nD τ).loc main_arg2)) (m ((c : Thread nD τ).loc main_arg3)) (ix2 v d) + y) ?_
  exact scatter_at _ (fun j => by pointwise) (m ((c : Thread nD τ).loc main_arg6)) _ (fun t => by pointwise) _ v d

/-- The whole run: the result is the formula of the arguments, and they end unchanged. -/
theorem run (ρ : Dev nD → PrngReg) : θ_run defs (onTc (τ := τ) (main (F := Ideal))) ⟨m, fun _ => 0, ρ⟩ fun r => ∀ c : Dev nD,
      r.2.mem ((c.tc : Thread nD τ).loc main_v4)
        = Cert.DwIdeal.Value.REF (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).2 main_v4 (Pipeline.mem_restRefs_of main_v4 (by decide) (by decide))).trans (tail m c), h.2 c⟩)
    (θ_run_and (run_main m ρ) (unchanged m ρ))

end Cert.DwRefIdeal.Value

end
-- ==== Proof.lean ====
/- The proof of the certificate: each conjunct of `Cert.Claim` from the run of the program it speaks of. -/
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.DxIdeal.Value
public import proofs.«01_k».proof.Proof.Gen.DxRefIdeal.Value
public import proofs.«01_k».proof.Proof.Gen.Dw
public import proofs.«01_k».proof.Proof.Gen.Dw.Skeleton
public import proofs.«01_k».proof.Proof.Gen.Dw.Launch
public import proofs.«01_k».proof.Proof.Gen.Dw.Loops
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Loops
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.Pre_ids_sorted
public import proofs.«01_k».proof.Proof.DxValue
public import proofs.«01_k».proof.Proof.Dw.Frame
public import proofs.«01_k».proof.Proof.Dw.Table
public import proofs.«01_k».proof.Proof.DwIdeal.Final
public import proofs.«01_k».proof.Proof.DwRefIdeal.Value
public import Idealize.ShloMosaic.Lib.Claim
public import Idealize.ShloMosaic.Adequacy
public import Idealize.ShloMosaic.Init

@[expose] public section

noncomputable section

namespace Cert.Proof

open Idealize.ShloMosaic Idealize.SL.Sem Cert.Dx

theorem quiescent_Dx : Cert.quiescent_Dx := by
  intro m g _; exact Cert.Dx.Gen.frame m g

theorem quiescent_DxIdeal : Cert.quiescent_DxIdeal := by
  intro m g _; exact Cert.DxIdeal.Gen.frame m g

theorem quiescent_DxRefIdeal : Cert.quiescent_DxRefIdeal := by
  intro m g _; exact Cert.DxRefIdeal.Gen.frame m g

/-- The input gradient: kernel and reference leave the same extended reals. -/
theorem algebraic_dx : Cert.algebraic_DxIdeal_DxRefIdeal := by
  intro m g m' g' _ hagree
  refine ⟨fun c => Cert.DxIdeal.Value.REF _ _ _ _,
    Idealize.ShloMosaic.θ_run_mono (Cert.DxIdeal.Value.run_blocks m g) fun r h c => ⟨(h c).1.trans (Cert.DxIdeal.Value.final m c), (h c).2⟩,
    Idealize.ShloMosaic.θ_run_mono (Cert.DxRefIdeal.Value.run m' g') fun r h c => ⟨(h c).1.trans ?_, (h c).2⟩⟩
  obtain ⟨h0, h1, h2, h3⟩ := hagree c
  rw [h0, h1, h2, h3]

theorem quiescent_Dw : Cert.quiescent_Dw := by
  intro m g _; exact Cert.Dw.Gen.frame m g (Cert.Dw.Gen.ok m) (Cert.Dw.Gen.hyps m)

theorem quiescent_DwIdeal : Cert.quiescent_DwIdeal := by
  intro m g _; exact Cert.DwIdeal.Gen.frame m g (Cert.DwIdeal.Gen.ok m) (Cert.DwIdeal.Gen.hyps m)

theorem quiescent_DwIdeal_sorted : Cert.quiescent_DwIdeal_pre_ids_sorted := by
  intro m g _; exact Cert.DwIdeal.Gen.frame m g (Cert.DwIdeal.Gen.ok m) (Cert.DwIdeal.Gen.hyps m)

theorem quiescent_DwRefIdeal : Cert.quiescent_DwRefIdeal := by
  intro m g _; exact Cert.DwRefIdeal.Gen.frame m g

theorem quiescent_DwRefIdeal_sorted : Cert.quiescent_DwRefIdeal_pre_ids_sorted := by
  intro m g _; exact Cert.DwRefIdeal.Gen.frame m g

/-- The weight gradient: for sorted ids, kernel and reference leave the same extended reals. -/
theorem algebraic_dw : Cert.algebraic_DwIdeal_DwRefIdeal_pre_ids_sorted := by
  intro m g m' g' hpre hagree
  refine ⟨fun c => Cert.DwIdeal.Value.REF _ _ _ _ _ _ _,
    Cert.DwIdeal.Value.run m g fun c a b hab => Cert.DwIdeal.Value.sorted_of_pre _ _ _ _ _ _ _ (hpre c) a b hab,
    Idealize.ShloMosaic.θ_run_mono (Cert.DwRefIdeal.Value.run m' g') fun r h c => ⟨(h c).1.trans ?_, (h c).2⟩⟩
  obtain ⟨h0, h1, h2, h3, h4, h5, h6⟩ := hagree c
  rw [h0, h1, h2, h3, h4, h5, h6]

theorem claim : Cert.Claim := ⟨Cert.Dx.Gen.facts, Cert.DxIdeal.Gen.facts, Cert.DxRefIdeal.Gen.facts,
  Cert.Dw.Gen.facts, Cert.DwIdeal.Gen.facts, Cert.DwRefIdeal.Gen.facts, Cert.Pre_ids_sorted.Gen.facts,
  quiescent_Dx, quiescent_DxIdeal, quiescent_DxRefIdeal,
  quiescent_Dw, quiescent_DwIdeal, quiescent_DwIdeal_sorted, quiescent_DwRefIdeal, quiescent_DwRefIdeal_sorted,
  trivial, algebraic_dx, trivial, algebraic_dw⟩

end Cert.Proof

end
